-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8192 : Shape := ⟨2, ![128, 8192]⟩
abbrev S8x8192 : Shape := ⟨2, ![8, 8192]⟩
abbrev S64x8192 : Shape := ⟨2, ![64, 8192]⟩

abbrev nBuf : Space → Nat
  | .hbm => 4
  | .vmem => 10
  | .smem => 0
  | _ => 0

abbrev bufTy : (tb : Table) → Fin (tcTables nBuf tb) → BufTy
  | .hbm, ⟨0, _⟩ => ⟨S128x8192, .i32⟩
  | .hbm, ⟨1, _⟩ => ⟨S128x8192, .i16⟩
  | .hbm, ⟨2, _⟩ => ⟨S128x8192, .i32⟩
  | .hbm, ⟨3, _⟩ => ⟨S128x8192, .i32⟩
  | .local _ .vmem, ⟨0, _⟩ => ⟨S8x8192, .i16⟩
  | .local _ .vmem, ⟨1, _⟩ => ⟨S8x8192, .i16⟩
  | .local _ .vmem, ⟨2, _⟩ => ⟨S64x8192, .i32⟩
  | .local _ .vmem, ⟨3, _⟩ => ⟨S64x8192, .i32⟩
  | .local _ .vmem, ⟨4, _⟩ => ⟨S64x8192, .i16⟩
  | .local _ .vmem, ⟨5, _⟩ => ⟨S64x8192, .i16⟩
  | .local _ .vmem, ⟨6, _⟩ => ⟨S64x8192, .i32⟩
  | .local _ .vmem, ⟨7, _⟩ => ⟨S64x8192, .i32⟩
  | .local _ .vmem, ⟨8, _⟩ => ⟨S64x8192, .i32⟩
  | .local _ .vmem, ⟨9, _⟩ => ⟨S64x8192, .i32⟩
  | _, _ => ⟨S128x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x8192 .i16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x8192 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S128x8192 : Shape := ⟨2, ![128, 8192]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S1x1 : Shape := ⟨2, ![1, 1]⟩
abbrev S2x1 : Shape := ⟨2, ![2, 1]⟩
abbrev S2x2 : Shape := ⟨2, ![2, 2]⟩

abbrev nBuf : Space → Nat
  | .hbm => 1843
  | .vmem => 0
  | .smem => 0
  | _ => 0

abbrev hbmTy0_0 (i : Nat) : BufTy := match i % 128 with
  | 0 => ⟨S128x8192, .i32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S4, .i64⟩
  | 16 => ⟨S_, .i64⟩
  | 17 => ⟨S4, .i64⟩
  | 18 => ⟨S4, .i64⟩
  | 19 => ⟨S_, .i64⟩
  | 20 => ⟨S4, .i64⟩
  | 21 => ⟨S4, .i64⟩
  | 22 => ⟨S4, .i32⟩
  | 23 => ⟨S4, .i32⟩
  | 24 => ⟨S_, .i32⟩
  | 25 => ⟨S_, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S4, .i32⟩
  | 55 => ⟨S4, .i32⟩
  | 56 => ⟨S4, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S4, .i32⟩
  | 82 => ⟨S4, .i32⟩
  | 83 => ⟨S4, .i32⟩
  | 84 => ⟨S_, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S4, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S4, .i32⟩
  | 125 => ⟨S4, .i32⟩
  | 126 => ⟨S4, .i32⟩
  | 127 => ⟨S_, .i32⟩
  | _ => ⟨S128x8192, .i32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4x1, .i32⟩
  | 119 => ⟨S4x1, .i32⟩
  | 120 => ⟨S4x2, .i32⟩
  | 121 => ⟨S1x2, .i32⟩
  | 122 => ⟨S2, .i32⟩
  | 123 => ⟨S1x2, .i32⟩
  | 124 => ⟨S2, .i32⟩
  | 125 => ⟨S1x2, .i32⟩
  | 126 => ⟨S2, .i32⟩
  | 127 => ⟨S1x2, .i32⟩
  | _ => ⟨S128x8192, .i32⟩

abbrev hbmTy0_2 (i : Nat) : BufTy := match i % 128 with
  | 0 => ⟨S2, .i32⟩
  | 1 => ⟨S_, .f32⟩
  | 2 => ⟨S_, .f32⟩
  | 3 => ⟨S_, .f32⟩
  | 4 => ⟨S_, .f32⟩
  | 5 => ⟨S_, .f32⟩
  | 6 => ⟨S1x1, .f32⟩
  | 7 => ⟨S1x1, .f32⟩
  | 8 => ⟨S1, .i32⟩
  | 9 => ⟨S_, .i32⟩
  | 10 => ⟨S1, .i32⟩
  | 11 => ⟨S_, .i32⟩
  | 12 => ⟨S128x8192, .i64⟩
  | 13 => ⟨S128x8192, .i64⟩
  | 14 => ⟨S_, .i64⟩
  | 15 => ⟨S128x8192, .i64⟩
  | 16 => ⟨S128x8192, .i64⟩
  | 17 => ⟨S_, .i64⟩
  | 18 => ⟨S128x8192, .i64⟩
  | 19 => ⟨S128x8192, .i64⟩
  | 20 => ⟨S128x8192, .i64⟩
  | 21 => ⟨S_, .i64⟩
  | 22 => ⟨S128x8192, .i64⟩
  | 23 => ⟨S128x8192, .i64⟩
  | 24 => ⟨S128x8192, .i32⟩
  | 25 => ⟨S128x8192, .i32⟩
  | 26 => ⟨S_, .i32⟩
  | 27 => ⟨S_, .i32⟩
  | 28 => ⟨S_, .i32⟩
  | 29 => ⟨S128x8192, .i32⟩
  | 30 => ⟨S128x8192, .i32⟩
  | 31 => ⟨S128x8192, .i32⟩
  | 32 => ⟨S128x8192, .i32⟩
  | 33 => ⟨S128x8192, .i32⟩
  | 34 => ⟨S_, .i32⟩
  | 35 => ⟨S128x8192, .i32⟩
  | 36 => ⟨S128x8192, .i32⟩
  | 37 => ⟨S_, .i32⟩
  | 38 => ⟨S128x8192, .i32⟩
  | 39 => ⟨S128x8192, .i32⟩
  | 40 => ⟨S128x8192, .i32⟩
  | 41 => ⟨S128x8192, .i32⟩
  | 42 => ⟨S128x8192, .i32⟩
  | 43 => ⟨S_, .i32⟩
  | 44 => ⟨S128x8192, .i32⟩
  | 45 => ⟨S128x8192, .i32⟩
  | 46 => ⟨S_, .i32⟩
  | 47 => ⟨S128x8192, .i32⟩
  | 48 => ⟨S128x8192, .i32⟩
  | 49 => ⟨S128x8192, .i32⟩
  | 50 => ⟨S128x8192, .i32⟩
  | 51 => ⟨S128x8192, .i32⟩
  | 52 => ⟨S_, .i32⟩
  | 53 => ⟨S128x8192, .i32⟩
  | 54 => ⟨S128x8192, .i32⟩
  | 55 => ⟨S_, .i32⟩
  | 56 => ⟨S128x8192, .i32⟩
  | 57 => ⟨S128x8192, .i32⟩
  | 58 => ⟨S128x8192, .i32⟩
  | 59 => ⟨S128x8192, .i32⟩
  | 60 => ⟨S128x8192, .i32⟩
  | 61 => ⟨S_, .i32⟩
  | 62 => ⟨S128x8192, .i32⟩
  | 63 => ⟨S128x8192, .i32⟩
  | 64 => ⟨S_, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S128x8192, .i32⟩
  | 73 => ⟨S_, .i32⟩
  | 74 => ⟨S128x8192, .i32⟩
  | 75 => ⟨S128x8192, .i32⟩
  | 76 => ⟨S128x8192, .i32⟩
  | 77 => ⟨S_, .i32⟩
  | 78 => ⟨S128x8192, .i32⟩
  | 79 => ⟨S128x8192, .i32⟩
  | 80 => ⟨S_, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S_, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S128x8192, .i32⟩
  | 93 => ⟨S128x8192, .i32⟩
  | 94 => ⟨S128x8192, .i32⟩
  | 95 => ⟨S_, .i32⟩
  | 96 => ⟨S128x8192, .i32⟩
  | 97 => ⟨S128x8192, .i32⟩
  | 98 => ⟨S_, .i32⟩
  | 99 => ⟨S128x8192, .i32⟩
  | 100 => ⟨S128x8192, .i32⟩
  | 101 => ⟨S128x8192, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S_, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S128x8192, .i32⟩
  | 116 => ⟨S_, .i32⟩
  | 117 => ⟨S128x8192, .i32⟩
  | 118 => ⟨S128x8192, .i32⟩
  | 119 => ⟨S128x8192, .i32⟩
  | 120 => ⟨S_, .i32⟩
  | 121 => ⟨S128x8192, .i32⟩
  | 122 => ⟨S128x8192, .i32⟩
  | 123 => ⟨S_, .i32⟩
  | 124 => ⟨S128x8192, .i32⟩
  | 125 => ⟨S128x8192, .i32⟩
  | 126 => ⟨S128x8192, .i32⟩
  | 127 => ⟨S128x8192, .i32⟩
  | _ => ⟨S128x8192, .i32⟩

abbrev hbmTy0_3 (i : Nat) : BufTy := match i % 128 with
  | 0 => ⟨S128x8192, .i32⟩
  | 1 => ⟨S_, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S128x8192, .i32⟩
  | 8 => ⟨S128x8192, .i32⟩
  | 9 => ⟨S128x8192, .i32⟩
  | 10 => ⟨S_, .i32⟩
  | 11 => ⟨S128x8192, .i32⟩
  | 12 => ⟨S128x8192, .i32⟩
  | 13 => ⟨S_, .i32⟩
  | 14 => ⟨S128x8192, .i32⟩
  | 15 => ⟨S128x8192, .i32⟩
  | 16 => ⟨S128x8192, .i32⟩
  | 17 => ⟨S128x8192, .i32⟩
  | 18 => ⟨S128x8192, .i32⟩
  | 19 => ⟨S_, .i32⟩
  | 20 => ⟨S128x8192, .i32⟩
  | 21 => ⟨S128x8192, .i32⟩
  | 22 => ⟨S_, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S128x8192, .i32⟩
  | 30 => ⟨S128x8192, .i32⟩
  | 31 => ⟨S_, .i32⟩
  | 32 => ⟨S128x8192, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S_, .i32⟩
  | 39 => ⟨S128x8192, .i32⟩
  | 40 => ⟨S128x8192, .i32⟩
  | 41 => ⟨S128x8192, .i32⟩
  | 42 => ⟨S128x8192, .i32⟩
  | 43 => ⟨S128x8192, .i32⟩
  | 44 => ⟨S_, .i32⟩
  | 45 => ⟨S128x8192, .i32⟩
  | 46 => ⟨S128x8192, .i32⟩
  | 47 => ⟨S_, .i32⟩
  | 48 => ⟨S128x8192, .i32⟩
  | 49 => ⟨S128x8192, .i32⟩
  | 50 => ⟨S128x8192, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S_, .i32⟩
  | 57 => ⟨S128x8192, .i32⟩
  | 58 => ⟨S128x8192, .i32⟩
  | 59 => ⟨S128x8192, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S_, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S128x8192, .i32⟩
  | 73 => ⟨S128x8192, .i32⟩
  | 74 => ⟨S_, .i32⟩
  | 75 => ⟨S128x8192, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S_, .i32⟩
  | 82 => ⟨S128x8192, .i32⟩
  | 83 => ⟨S128x8192, .i32⟩
  | 84 => ⟨S128x8192, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S_, .i32⟩
  | 91 => ⟨S128x8192, .i32⟩
  | 92 => ⟨S128x8192, .i32⟩
  | 93 => ⟨S128x8192, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S_, .i32⟩
  | 100 => ⟨S128x8192, .i32⟩
  | 101 => ⟨S128x8192, .i32⟩
  | 102 => ⟨S128x8192, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S_, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S128x8192, .i32⟩
  | 116 => ⟨S128x8192, .i32⟩
  | 117 => ⟨S_, .i32⟩
  | 118 => ⟨S128x8192, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S_, .i32⟩
  | 125 => ⟨S128x8192, .i32⟩
  | 126 => ⟨S128x8192, .i32⟩
  | 127 => ⟨S128x8192, .f32⟩
  | _ => ⟨S128x8192, .i32⟩

abbrev hbmTy0_4 (i : Nat) : BufTy := match i % 128 with
  | 0 => ⟨S_, .f32⟩
  | 1 => ⟨S128x8192, .f32⟩
  | 2 => ⟨S128x8192, .f32⟩
  | 3 => ⟨S1x1, .f32⟩
  | 4 => ⟨S128x8192, .f32⟩
  | 5 => ⟨S128x8192, .f32⟩
  | 6 => ⟨S128x8192, .f32⟩
  | 7 => ⟨S128x8192, .f32⟩
  | 8 => ⟨S128x8192, .f32⟩
  | 9 => ⟨S128x8192, .f32⟩
  | 10 => ⟨S128x8192, .f32⟩
  | 11 => ⟨S128x8192, .i1⟩
  | 12 => ⟨S_, .i32⟩
  | 13 => ⟨S128x8192, .i32⟩
  | 14 => ⟨S128x8192, .i32⟩
  | 15 => ⟨S_, .f32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S128x8192, .i64⟩
  | 27 => ⟨S128x8192, .i64⟩
  | 28 => ⟨S_, .i64⟩
  | 29 => ⟨S128x8192, .i64⟩
  | 30 => ⟨S128x8192, .i64⟩
  | 31 => ⟨S_, .i64⟩
  | 32 => ⟨S128x8192, .i64⟩
  | 33 => ⟨S128x8192, .i64⟩
  | 34 => ⟨S128x8192, .i64⟩
  | 35 => ⟨S_, .i64⟩
  | 36 => ⟨S128x8192, .i64⟩
  | 37 => ⟨S128x8192, .i64⟩
  | 38 => ⟨S128x8192, .i32⟩
  | 39 => ⟨S128x8192, .i32⟩
  | 40 => ⟨S_, .i32⟩
  | 41 => ⟨S_, .i32⟩
  | 42 => ⟨S_, .i32⟩
  | 43 => ⟨S128x8192, .i32⟩
  | 44 => ⟨S128x8192, .i32⟩
  | 45 => ⟨S128x8192, .i32⟩
  | 46 => ⟨S128x8192, .i32⟩
  | 47 => ⟨S128x8192, .i32⟩
  | 48 => ⟨S_, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S128x8192, .i32⟩
  | 55 => ⟨S128x8192, .i32⟩
  | 56 => ⟨S128x8192, .i32⟩
  | 57 => ⟨S_, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S128x8192, .i32⟩
  | 64 => ⟨S128x8192, .i32⟩
  | 65 => ⟨S128x8192, .i32⟩
  | 66 => ⟨S_, .i32⟩
  | 67 => ⟨S128x8192, .i32⟩
  | 68 => ⟨S128x8192, .i32⟩
  | 69 => ⟨S_, .i32⟩
  | 70 => ⟨S128x8192, .i32⟩
  | 71 => ⟨S128x8192, .i32⟩
  | 72 => ⟨S128x8192, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S128x8192, .i32⟩
  | 91 => ⟨S_, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S128x8192, .i32⟩
  | 98 => ⟨S128x8192, .i32⟩
  | 99 => ⟨S128x8192, .i32⟩
  | 100 => ⟨S_, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S128x8192, .i32⟩
  | 107 => ⟨S128x8192, .i32⟩
  | 108 => ⟨S128x8192, .i32⟩
  | 109 => ⟨S_, .i32⟩
  | 110 => ⟨S128x8192, .i32⟩
  | 111 => ⟨S128x8192, .i32⟩
  | 112 => ⟨S_, .i32⟩
  | 113 => ⟨S128x8192, .i32⟩
  | 114 => ⟨S128x8192, .i32⟩
  | 115 => ⟨S128x8192, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S128x8192, .i32⟩
  | _ => ⟨S128x8192, .i32⟩

abbrev hbmTy0_5 (i : Nat) : BufTy := match i % 128 with
  | 0 => ⟨S128x8192, .i32⟩
  | 1 => ⟨S128x8192, .i32⟩
  | 2 => ⟨S_, .i32⟩
  | 3 => ⟨S128x8192, .i32⟩
  | 4 => ⟨S128x8192, .i32⟩
  | 5 => ⟨S128x8192, .i32⟩
  | 6 => ⟨S_, .i32⟩
  | 7 => ⟨S128x8192, .i32⟩
  | 8 => ⟨S128x8192, .i32⟩
  | 9 => ⟨S_, .i32⟩
  | 10 => ⟨S128x8192, .i32⟩
  | 11 => ⟨S128x8192, .i32⟩
  | 12 => ⟨S128x8192, .i32⟩
  | 13 => ⟨S128x8192, .i32⟩
  | 14 => ⟨S128x8192, .i32⟩
  | 15 => ⟨S_, .i32⟩
  | 16 => ⟨S128x8192, .i32⟩
  | 17 => ⟨S128x8192, .i32⟩
  | 18 => ⟨S_, .i32⟩
  | 19 => ⟨S128x8192, .i32⟩
  | 20 => ⟨S128x8192, .i32⟩
  | 21 => ⟨S128x8192, .i32⟩
  | 22 => ⟨S128x8192, .i32⟩
  | 23 => ⟨S128x8192, .i32⟩
  | 24 => ⟨S_, .i32⟩
  | 25 => ⟨S128x8192, .i32⟩
  | 26 => ⟨S128x8192, .i32⟩
  | 27 => ⟨S_, .i32⟩
  | 28 => ⟨S128x8192, .i32⟩
  | 29 => ⟨S128x8192, .i32⟩
  | 30 => ⟨S128x8192, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S_, .i32⟩
  | 37 => ⟨S128x8192, .i32⟩
  | 38 => ⟨S128x8192, .i32⟩
  | 39 => ⟨S128x8192, .i32⟩
  | 40 => ⟨S128x8192, .i32⟩
  | 41 => ⟨S128x8192, .i32⟩
  | 42 => ⟨S128x8192, .i32⟩
  | 43 => ⟨S128x8192, .i32⟩
  | 44 => ⟨S128x8192, .i32⟩
  | 45 => ⟨S_, .i32⟩
  | 46 => ⟨S128x8192, .i32⟩
  | 47 => ⟨S128x8192, .i32⟩
  | 48 => ⟨S128x8192, .i32⟩
  | 49 => ⟨S_, .i32⟩
  | 50 => ⟨S128x8192, .i32⟩
  | 51 => ⟨S128x8192, .i32⟩
  | 52 => ⟨S_, .i32⟩
  | 53 => ⟨S128x8192, .i32⟩
  | 54 => ⟨S128x8192, .i32⟩
  | 55 => ⟨S128x8192, .i32⟩
  | 56 => ⟨S128x8192, .i32⟩
  | 57 => ⟨S128x8192, .i32⟩
  | 58 => ⟨S_, .i32⟩
  | 59 => ⟨S128x8192, .i32⟩
  | 60 => ⟨S128x8192, .i32⟩
  | 61 => ⟨S_, .i32⟩
  | 62 => ⟨S128x8192, .i32⟩
  | 63 => ⟨S128x8192, .i32⟩
  | 64 => ⟨S128x8192, .i32⟩
  | 65 => ⟨S128x8192, .i32⟩
  | 66 => ⟨S128x8192, .i32⟩
  | 67 => ⟨S_, .i32⟩
  | 68 => ⟨S128x8192, .i32⟩
  | 69 => ⟨S128x8192, .i32⟩
  | 70 => ⟨S_, .i32⟩
  | 71 => ⟨S128x8192, .i32⟩
  | 72 => ⟨S128x8192, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S_, .i32⟩
  | 93 => ⟨S128x8192, .i32⟩
  | 94 => ⟨S128x8192, .i32⟩
  | 95 => ⟨S_, .i32⟩
  | 96 => ⟨S128x8192, .i32⟩
  | 97 => ⟨S128x8192, .i32⟩
  | 98 => ⟨S128x8192, .i32⟩
  | 99 => ⟨S128x8192, .i32⟩
  | 100 => ⟨S128x8192, .i32⟩
  | 101 => ⟨S_, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S128x8192, .i32⟩
  | 108 => ⟨S128x8192, .i32⟩
  | 109 => ⟨S128x8192, .i32⟩
  | 110 => ⟨S_, .i32⟩
  | 111 => ⟨S128x8192, .i32⟩
  | 112 => ⟨S128x8192, .i32⟩
  | 113 => ⟨S_, .i32⟩
  | 114 => ⟨S128x8192, .i32⟩
  | 115 => ⟨S128x8192, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .i32⟩
  | 126 => ⟨S128x8192, .i32⟩
  | 127 => ⟨S128x8192, .i32⟩
  | _ => ⟨S128x8192, .i32⟩

abbrev hbmTy0_6 (i : Nat) : BufTy := match i % 128 with
  | 0 => ⟨S128x8192, .i32⟩
  | 1 => ⟨S128x8192, .i32⟩
  | 2 => ⟨S128x8192, .i32⟩
  | 3 => ⟨S_, .i32⟩
  | 4 => ⟨S128x8192, .i32⟩
  | 5 => ⟨S128x8192, .i32⟩
  | 6 => ⟨S128x8192, .i32⟩
  | 7 => ⟨S_, .i32⟩
  | 8 => ⟨S128x8192, .i32⟩
  | 9 => ⟨S128x8192, .i32⟩
  | 10 => ⟨S_, .i32⟩
  | 11 => ⟨S128x8192, .i32⟩
  | 12 => ⟨S128x8192, .i32⟩
  | 13 => ⟨S128x8192, .f32⟩
  | 14 => ⟨S_, .f32⟩
  | 15 => ⟨S128x8192, .f32⟩
  | 16 => ⟨S128x8192, .f32⟩
  | 17 => ⟨S1x1, .f32⟩
  | 18 => ⟨S128x8192, .f32⟩
  | 19 => ⟨S128x8192, .f32⟩
  | 20 => ⟨S128x8192, .f32⟩
  | 21 => ⟨S128x8192, .f32⟩
  | 22 => ⟨S128x8192, .f32⟩
  | 23 => ⟨S128x8192, .f32⟩
  | 24 => ⟨S128x8192, .f32⟩
  | 25 => ⟨S128x8192, .i1⟩
  | 26 => ⟨S128x8192, .i1⟩
  | 27 => ⟨S_, .i32⟩
  | 28 => ⟨S128x8192, .i32⟩
  | 29 => ⟨S128x8192, .i32⟩
  | 30 => ⟨S_, .f32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S128x8192, .i64⟩
  | 42 => ⟨S128x8192, .i64⟩
  | 43 => ⟨S_, .i64⟩
  | 44 => ⟨S128x8192, .i64⟩
  | 45 => ⟨S128x8192, .i64⟩
  | 46 => ⟨S_, .i64⟩
  | 47 => ⟨S128x8192, .i64⟩
  | 48 => ⟨S128x8192, .i64⟩
  | 49 => ⟨S128x8192, .i64⟩
  | 50 => ⟨S_, .i64⟩
  | 51 => ⟨S128x8192, .i64⟩
  | 52 => ⟨S128x8192, .i64⟩
  | 53 => ⟨S128x8192, .i32⟩
  | 54 => ⟨S128x8192, .i32⟩
  | 55 => ⟨S_, .i32⟩
  | 56 => ⟨S_, .i32⟩
  | 57 => ⟨S_, .i32⟩
  | 58 => ⟨S128x8192, .i32⟩
  | 59 => ⟨S128x8192, .i32⟩
  | 60 => ⟨S128x8192, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S_, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S128x8192, .i32⟩
  | 79 => ⟨S128x8192, .i32⟩
  | 80 => ⟨S128x8192, .i32⟩
  | 81 => ⟨S_, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S128x8192, .i32⟩
  | 88 => ⟨S128x8192, .i32⟩
  | 89 => ⟨S128x8192, .i32⟩
  | 90 => ⟨S_, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S128x8192, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S_, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S128x8192, .i32⟩
  | 122 => ⟨S128x8192, .i32⟩
  | 123 => ⟨S128x8192, .i32⟩
  | 124 => ⟨S_, .i32⟩
  | 125 => ⟨S128x8192, .i32⟩
  | 126 => ⟨S128x8192, .i32⟩
  | 127 => ⟨S_, .i32⟩
  | _ => ⟨S128x8192, .i32⟩

abbrev hbmTy0_7 (i : Nat) : BufTy := match i % 128 with
  | 0 => ⟨S128x8192, .i32⟩
  | 1 => ⟨S128x8192, .i32⟩
  | 2 => ⟨S128x8192, .i32⟩
  | 3 => ⟨S128x8192, .i32⟩
  | 4 => ⟨S128x8192, .i32⟩
  | 5 => ⟨S_, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S128x8192, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S128x8192, .i32⟩
  | 21 => ⟨S_, .i32⟩
  | 22 => ⟨S128x8192, .i32⟩
  | 23 => ⟨S128x8192, .i32⟩
  | 24 => ⟨S_, .i32⟩
  | 25 => ⟨S128x8192, .i32⟩
  | 26 => ⟨S128x8192, .i32⟩
  | 27 => ⟨S128x8192, .i32⟩
  | 28 => ⟨S128x8192, .i32⟩
  | 29 => ⟨S128x8192, .i32⟩
  | 30 => ⟨S_, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S128x8192, .i32⟩
  | 37 => ⟨S128x8192, .i32⟩
  | 38 => ⟨S128x8192, .i32⟩
  | 39 => ⟨S_, .i32⟩
  | 40 => ⟨S128x8192, .i32⟩
  | 41 => ⟨S128x8192, .i32⟩
  | 42 => ⟨S_, .i32⟩
  | 43 => ⟨S128x8192, .i32⟩
  | 44 => ⟨S128x8192, .i32⟩
  | 45 => ⟨S128x8192, .i32⟩
  | 46 => ⟨S128x8192, .i32⟩
  | 47 => ⟨S128x8192, .i32⟩
  | 48 => ⟨S_, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S128x8192, .i32⟩
  | 64 => ⟨S_, .i32⟩
  | 65 => ⟨S128x8192, .i32⟩
  | 66 => ⟨S128x8192, .i32⟩
  | 67 => ⟨S_, .i32⟩
  | 68 => ⟨S128x8192, .i32⟩
  | 69 => ⟨S128x8192, .i32⟩
  | 70 => ⟨S128x8192, .i32⟩
  | 71 => ⟨S128x8192, .i32⟩
  | 72 => ⟨S128x8192, .i32⟩
  | 73 => ⟨S_, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S128x8192, .i32⟩
  | 80 => ⟨S128x8192, .i32⟩
  | 81 => ⟨S128x8192, .i32⟩
  | 82 => ⟨S_, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S128x8192, .i32⟩
  | 89 => ⟨S128x8192, .i32⟩
  | 90 => ⟨S128x8192, .i32⟩
  | 91 => ⟨S_, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S128x8192, .i32⟩
  | 107 => ⟨S_, .i32⟩
  | 108 => ⟨S128x8192, .i32⟩
  | 109 => ⟨S128x8192, .i32⟩
  | 110 => ⟨S_, .i32⟩
  | 111 => ⟨S128x8192, .i32⟩
  | 112 => ⟨S128x8192, .i32⟩
  | 113 => ⟨S128x8192, .i32⟩
  | 114 => ⟨S128x8192, .i32⟩
  | 115 => ⟨S128x8192, .i32⟩
  | 116 => ⟨S_, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S128x8192, .i32⟩
  | 123 => ⟨S128x8192, .i32⟩
  | 124 => ⟨S128x8192, .i32⟩
  | 125 => ⟨S_, .i32⟩
  | 126 => ⟨S128x8192, .i32⟩
  | 127 => ⟨S128x8192, .i32⟩
  | _ => ⟨S128x8192, .i32⟩

abbrev hbmTy0_8 (i : Nat) : BufTy := match i % 128 with
  | 0 => ⟨S_, .i32⟩
  | 1 => ⟨S128x8192, .i32⟩
  | 2 => ⟨S128x8192, .i32⟩
  | 3 => ⟨S128x8192, .i32⟩
  | 4 => ⟨S128x8192, .i32⟩
  | 5 => ⟨S128x8192, .i32⟩
  | 6 => ⟨S_, .i32⟩
  | 7 => ⟨S128x8192, .i32⟩
  | 8 => ⟨S128x8192, .i32⟩
  | 9 => ⟨S_, .i32⟩
  | 10 => ⟨S128x8192, .i32⟩
  | 11 => ⟨S128x8192, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S128x8192, .i32⟩
  | 18 => ⟨S_, .i32⟩
  | 19 => ⟨S128x8192, .i32⟩
  | 20 => ⟨S128x8192, .i32⟩
  | 21 => ⟨S128x8192, .i32⟩
  | 22 => ⟨S_, .i32⟩
  | 23 => ⟨S128x8192, .i32⟩
  | 24 => ⟨S128x8192, .i32⟩
  | 25 => ⟨S_, .i32⟩
  | 26 => ⟨S128x8192, .i32⟩
  | 27 => ⟨S128x8192, .i32⟩
  | 28 => ⟨S128x8192, .f32⟩
  | 29 => ⟨S_, .f32⟩
  | 30 => ⟨S128x8192, .f32⟩
  | 31 => ⟨S128x8192, .f32⟩
  | 32 => ⟨S1x1, .f32⟩
  | 33 => ⟨S128x8192, .f32⟩
  | 34 => ⟨S128x8192, .f32⟩
  | 35 => ⟨S128x8192, .f32⟩
  | 36 => ⟨S128x8192, .f32⟩
  | 37 => ⟨S128x8192, .f32⟩
  | 38 => ⟨S128x8192, .f32⟩
  | 39 => ⟨S128x8192, .f32⟩
  | 40 => ⟨S128x8192, .i1⟩
  | 41 => ⟨S128x8192, .i1⟩
  | 42 => ⟨S128x8192, .i1⟩
  | 43 => ⟨S128x8192, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x1, .i32⟩
  | 63 => ⟨S1x1, .i32⟩
  | 64 => ⟨S1, .i32⟩
  | 65 => ⟨S_, .i32⟩
  | 66 => ⟨S1, .i32⟩
  | 67 => ⟨S_, .i32⟩
  | 68 => ⟨S2, .i64⟩
  | 69 => ⟨S_, .i64⟩
  | 70 => ⟨S2, .i64⟩
  | 71 => ⟨S2, .i64⟩
  | 72 => ⟨S_, .i64⟩
  | 73 => ⟨S2, .i64⟩
  | 74 => ⟨S2, .i64⟩
  | 75 => ⟨S2, .i32⟩
  | 76 => ⟨S2, .i32⟩
  | 77 => ⟨S_, .i32⟩
  | 78 => ⟨S_, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S128x8192, .i32⟩

abbrev hbmTy0_9 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S128x8192, .i32⟩

abbrev hbmTy0_10 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2x1, .i32⟩
  | 44 => ⟨S2x1, .i32⟩
  | 45 => ⟨S2x2, .i32⟩
  | 46 => ⟨S1x2, .i32⟩
  | 47 => ⟨S2, .i32⟩
  | 48 => ⟨S1x2, .i32⟩
  | 49 => ⟨S2, .i32⟩
  | 50 => ⟨S1, .i32⟩
  | 51 => ⟨S_, .i32⟩
  | 52 => ⟨S1, .i32⟩
  | 53 => ⟨S_, .i32⟩
  | 54 => ⟨S128x8192, .i64⟩
  | 55 => ⟨S128x8192, .i64⟩
  | 56 => ⟨S_, .i64⟩
  | 57 => ⟨S128x8192, .i64⟩
  | 58 => ⟨S128x8192, .i64⟩
  | 59 => ⟨S_, .i64⟩
  | 60 => ⟨S128x8192, .i64⟩
  | 61 => ⟨S128x8192, .i64⟩
  | 62 => ⟨S128x8192, .i64⟩
  | 63 => ⟨S_, .i64⟩
  | 64 => ⟨S128x8192, .i64⟩
  | 65 => ⟨S128x8192, .i64⟩
  | 66 => ⟨S128x8192, .i32⟩
  | 67 => ⟨S128x8192, .i32⟩
  | 68 => ⟨S_, .i32⟩
  | 69 => ⟨S_, .i32⟩
  | 70 => ⟨S_, .i32⟩
  | 71 => ⟨S128x8192, .i32⟩
  | 72 => ⟨S128x8192, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .i32⟩
  | 126 => ⟨S128x8192, .i32⟩
  | 127 => ⟨S128x8192, .i32⟩
  | _ => ⟨S128x8192, .i32⟩

abbrev hbmTy0_11 (i : Nat) : BufTy := match i % 128 with
  | 0 => ⟨S_, .i32⟩
  | 1 => ⟨S128x8192, .i32⟩
  | 2 => ⟨S128x8192, .i32⟩
  | 3 => ⟨S_, .i32⟩
  | 4 => ⟨S128x8192, .i32⟩
  | 5 => ⟨S128x8192, .i32⟩
  | 6 => ⟨S128x8192, .i32⟩
  | 7 => ⟨S128x8192, .i32⟩
  | 8 => ⟨S128x8192, .i32⟩
  | 9 => ⟨S_, .i32⟩
  | 10 => ⟨S128x8192, .i32⟩
  | 11 => ⟨S128x8192, .i32⟩
  | 12 => ⟨S_, .i32⟩
  | 13 => ⟨S128x8192, .i32⟩
  | 14 => ⟨S128x8192, .i32⟩
  | 15 => ⟨S128x8192, .i32⟩
  | 16 => ⟨S128x8192, .i32⟩
  | 17 => ⟨S128x8192, .i32⟩
  | 18 => ⟨S_, .i32⟩
  | 19 => ⟨S128x8192, .i32⟩
  | 20 => ⟨S128x8192, .i32⟩
  | 21 => ⟨S_, .i32⟩
  | 22 => ⟨S128x8192, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S128x8192, .i32⟩
  | 30 => ⟨S_, .i32⟩
  | 31 => ⟨S128x8192, .i32⟩
  | 32 => ⟨S128x8192, .i32⟩
  | 33 => ⟨S128x8192, .i32⟩
  | 34 => ⟨S_, .i32⟩
  | 35 => ⟨S128x8192, .i32⟩
  | 36 => ⟨S128x8192, .i32⟩
  | 37 => ⟨S_, .i32⟩
  | 38 => ⟨S128x8192, .i32⟩
  | 39 => ⟨S128x8192, .i32⟩
  | 40 => ⟨S128x8192, .i32⟩
  | 41 => ⟨S128x8192, .i32⟩
  | 42 => ⟨S128x8192, .i32⟩
  | 43 => ⟨S_, .i32⟩
  | 44 => ⟨S128x8192, .i32⟩
  | 45 => ⟨S128x8192, .i32⟩
  | 46 => ⟨S_, .i32⟩
  | 47 => ⟨S128x8192, .i32⟩
  | 48 => ⟨S128x8192, .i32⟩
  | 49 => ⟨S128x8192, .i32⟩
  | 50 => ⟨S128x8192, .i32⟩
  | 51 => ⟨S128x8192, .i32⟩
  | 52 => ⟨S_, .i32⟩
  | 53 => ⟨S128x8192, .i32⟩
  | 54 => ⟨S128x8192, .i32⟩
  | 55 => ⟨S_, .i32⟩
  | 56 => ⟨S128x8192, .i32⟩
  | 57 => ⟨S128x8192, .i32⟩
  | 58 => ⟨S128x8192, .i32⟩
  | 59 => ⟨S128x8192, .i32⟩
  | 60 => ⟨S128x8192, .i32⟩
  | 61 => ⟨S_, .i32⟩
  | 62 => ⟨S128x8192, .i32⟩
  | 63 => ⟨S128x8192, .i32⟩
  | 64 => ⟨S_, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S128x8192, .i32⟩
  | 73 => ⟨S_, .i32⟩
  | 74 => ⟨S128x8192, .i32⟩
  | 75 => ⟨S128x8192, .i32⟩
  | 76 => ⟨S128x8192, .i32⟩
  | 77 => ⟨S_, .i32⟩
  | 78 => ⟨S128x8192, .i32⟩
  | 79 => ⟨S128x8192, .i32⟩
  | 80 => ⟨S_, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S_, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S128x8192, .i32⟩
  | 93 => ⟨S128x8192, .i32⟩
  | 94 => ⟨S128x8192, .i32⟩
  | 95 => ⟨S_, .i32⟩
  | 96 => ⟨S128x8192, .i32⟩
  | 97 => ⟨S128x8192, .i32⟩
  | 98 => ⟨S_, .i32⟩
  | 99 => ⟨S128x8192, .i32⟩
  | 100 => ⟨S128x8192, .i32⟩
  | 101 => ⟨S128x8192, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S_, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S128x8192, .i32⟩
  | 116 => ⟨S_, .i32⟩
  | 117 => ⟨S128x8192, .i32⟩
  | 118 => ⟨S128x8192, .i32⟩
  | 119 => ⟨S128x8192, .i32⟩
  | 120 => ⟨S_, .i32⟩
  | 121 => ⟨S128x8192, .i32⟩
  | 122 => ⟨S128x8192, .i32⟩
  | 123 => ⟨S_, .i32⟩
  | 124 => ⟨S128x8192, .i32⟩
  | 125 => ⟨S128x8192, .i32⟩
  | 126 => ⟨S128x8192, .i32⟩
  | 127 => ⟨S128x8192, .i32⟩
  | _ => ⟨S128x8192, .i32⟩

abbrev hbmTy0_12 (i : Nat) : BufTy := match i % 128 with
  | 0 => ⟨S128x8192, .i32⟩
  | 1 => ⟨S_, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S128x8192, .i32⟩
  | 8 => ⟨S128x8192, .i32⟩
  | 9 => ⟨S128x8192, .i32⟩
  | 10 => ⟨S_, .i32⟩
  | 11 => ⟨S128x8192, .i32⟩
  | 12 => ⟨S128x8192, .i32⟩
  | 13 => ⟨S_, .i32⟩
  | 14 => ⟨S128x8192, .i32⟩
  | 15 => ⟨S128x8192, .i32⟩
  | 16 => ⟨S128x8192, .i32⟩
  | 17 => ⟨S128x8192, .i32⟩
  | 18 => ⟨S128x8192, .i32⟩
  | 19 => ⟨S_, .i32⟩
  | 20 => ⟨S128x8192, .i32⟩
  | 21 => ⟨S128x8192, .i32⟩
  | 22 => ⟨S_, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S128x8192, .i32⟩
  | 30 => ⟨S128x8192, .i32⟩
  | 31 => ⟨S_, .i32⟩
  | 32 => ⟨S128x8192, .i32⟩
  | 33 => ⟨S128x8192, .i32⟩
  | 34 => ⟨S128x8192, .i32⟩
  | 35 => ⟨S1, .i32⟩
  | 36 => ⟨S_, .i32⟩
  | 37 => ⟨S1, .i32⟩
  | 38 => ⟨S_, .i32⟩
  | 39 => ⟨S128x8192, .i64⟩
  | 40 => ⟨S128x8192, .i64⟩
  | 41 => ⟨S_, .i64⟩
  | 42 => ⟨S128x8192, .i64⟩
  | 43 => ⟨S128x8192, .i64⟩
  | 44 => ⟨S_, .i64⟩
  | 45 => ⟨S128x8192, .i64⟩
  | 46 => ⟨S128x8192, .i64⟩
  | 47 => ⟨S128x8192, .i64⟩
  | 48 => ⟨S_, .i64⟩
  | 49 => ⟨S128x8192, .i64⟩
  | 50 => ⟨S128x8192, .i64⟩
  | 51 => ⟨S128x8192, .i32⟩
  | 52 => ⟨S128x8192, .i32⟩
  | 53 => ⟨S_, .i32⟩
  | 54 => ⟨S_, .i32⟩
  | 55 => ⟨S_, .i32⟩
  | 56 => ⟨S128x8192, .i32⟩
  | 57 => ⟨S128x8192, .i32⟩
  | 58 => ⟨S128x8192, .i32⟩
  | 59 => ⟨S128x8192, .i32⟩
  | 60 => ⟨S128x8192, .i32⟩
  | 61 => ⟨S_, .i32⟩
  | 62 => ⟨S128x8192, .i32⟩
  | 63 => ⟨S128x8192, .i32⟩
  | 64 => ⟨S_, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S_, .i32⟩
  | 71 => ⟨S128x8192, .i32⟩
  | 72 => ⟨S128x8192, .i32⟩
  | 73 => ⟨S_, .i32⟩
  | 74 => ⟨S128x8192, .i32⟩
  | 75 => ⟨S128x8192, .i32⟩
  | 76 => ⟨S128x8192, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S_, .i32⟩
  | 83 => ⟨S128x8192, .i32⟩
  | 84 => ⟨S128x8192, .i32⟩
  | 85 => ⟨S128x8192, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S_, .i32⟩
  | 92 => ⟨S128x8192, .i32⟩
  | 93 => ⟨S128x8192, .i32⟩
  | 94 => ⟨S128x8192, .i32⟩
  | 95 => ⟨S128x8192, .i32⟩
  | 96 => ⟨S128x8192, .i32⟩
  | 97 => ⟨S128x8192, .i32⟩
  | 98 => ⟨S128x8192, .i32⟩
  | 99 => ⟨S128x8192, .i32⟩
  | 100 => ⟨S_, .i32⟩
  | 101 => ⟨S128x8192, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S_, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S_, .i32⟩
  | 114 => ⟨S128x8192, .i32⟩
  | 115 => ⟨S128x8192, .i32⟩
  | 116 => ⟨S_, .i32⟩
  | 117 => ⟨S128x8192, .i32⟩
  | 118 => ⟨S128x8192, .i32⟩
  | 119 => ⟨S128x8192, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S_, .i32⟩
  | 126 => ⟨S128x8192, .i32⟩
  | 127 => ⟨S128x8192, .i32⟩
  | _ => ⟨S128x8192, .i32⟩

abbrev hbmTy0_13 (i : Nat) : BufTy := match i % 128 with
  | 0 => ⟨S128x8192, .i32⟩
  | 1 => ⟨S128x8192, .i32⟩
  | 2 => ⟨S128x8192, .i32⟩
  | 3 => ⟨S_, .i32⟩
  | 4 => ⟨S128x8192, .i32⟩
  | 5 => ⟨S128x8192, .i32⟩
  | 6 => ⟨S_, .i32⟩
  | 7 => ⟨S128x8192, .i32⟩
  | 8 => ⟨S128x8192, .i32⟩
  | 9 => ⟨S128x8192, .i32⟩
  | 10 => ⟨S128x8192, .i32⟩
  | 11 => ⟨S128x8192, .i32⟩
  | 12 => ⟨S128x8192, .i32⟩
  | 13 => ⟨S128x8192, .i32⟩
  | 14 => ⟨S128x8192, .i32⟩
  | 15 => ⟨S_, .i32⟩
  | 16 => ⟨S128x8192, .i32⟩
  | 17 => ⟨S128x8192, .i32⟩
  | 18 => ⟨S128x8192, .i32⟩
  | 19 => ⟨S_, .i32⟩
  | 20 => ⟨S128x8192, .i32⟩
  | 21 => ⟨S128x8192, .i32⟩
  | 22 => ⟨S_, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S_, .i32⟩
  | 29 => ⟨S128x8192, .i32⟩
  | 30 => ⟨S128x8192, .i32⟩
  | 31 => ⟨S_, .i32⟩
  | 32 => ⟨S128x8192, .i32⟩
  | 33 => ⟨S128x8192, .i32⟩
  | 34 => ⟨S128x8192, .i32⟩
  | 35 => ⟨S128x8192, .i32⟩
  | 36 => ⟨S128x8192, .i32⟩
  | 37 => ⟨S_, .i32⟩
  | 38 => ⟨S128x8192, .i32⟩
  | 39 => ⟨S128x8192, .i32⟩
  | 40 => ⟨S_, .i32⟩
  | 41 => ⟨S128x8192, .i32⟩
  | 42 => ⟨S128x8192, .i32⟩
  | 43 => ⟨S128x8192, .i32⟩
  | 44 => ⟨S128x8192, .i32⟩
  | 45 => ⟨S128x8192, .i32⟩
  | 46 => ⟨S_, .i32⟩
  | 47 => ⟨S128x8192, .i32⟩
  | 48 => ⟨S128x8192, .i32⟩
  | 49 => ⟨S_, .i32⟩
  | 50 => ⟨S128x8192, .i32⟩
  | 51 => ⟨S128x8192, .i32⟩
  | 52 => ⟨S128x8192, .i32⟩
  | 53 => ⟨S128x8192, .i32⟩
  | 54 => ⟨S128x8192, .i32⟩
  | 55 => ⟨S128x8192, .i32⟩
  | 56 => ⟨S128x8192, .i32⟩
  | 57 => ⟨S128x8192, .i32⟩
  | 58 => ⟨S_, .i32⟩
  | 59 => ⟨S128x8192, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S_, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S_, .i32⟩
  | 75 => ⟨S128x8192, .i32⟩
  | 76 => ⟨S128x8192, .i32⟩
  | 77 => ⟨S128x8192, .i32⟩
  | 78 => ⟨S128x8192, .i32⟩
  | 79 => ⟨S128x8192, .i32⟩
  | 80 => ⟨S_, .i32⟩
  | 81 => ⟨S128x8192, .i32⟩
  | 82 => ⟨S128x8192, .i32⟩
  | 83 => ⟨S_, .i32⟩
  | 84 => ⟨S128x8192, .i32⟩
  | 85 => ⟨S128x8192, .i32⟩
  | 86 => ⟨S128x8192, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S_, .i32⟩
  | 93 => ⟨S128x8192, .i32⟩
  | 94 => ⟨S128x8192, .i32⟩
  | 95 => ⟨S128x8192, .i32⟩
  | 96 => ⟨S128x8192, .i32⟩
  | 97 => ⟨S128x8192, .i32⟩
  | 98 => ⟨S128x8192, .i32⟩
  | 99 => ⟨S128x8192, .i32⟩
  | 100 => ⟨S128x8192, .i32⟩
  | 101 => ⟨S_, .i32⟩
  | 102 => ⟨S128x8192, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S_, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S_, .i32⟩
  | 118 => ⟨S128x8192, .i32⟩
  | 119 => ⟨S128x8192, .i32⟩
  | 120 => ⟨S128x8192, .i32⟩
  | 121 => ⟨S128x8192, .i32⟩
  | 122 => ⟨S128x8192, .i32⟩
  | 123 => ⟨S_, .i32⟩
  | 124 => ⟨S128x8192, .i32⟩
  | 125 => ⟨S128x8192, .i32⟩
  | 126 => ⟨S_, .i32⟩
  | 127 => ⟨S128x8192, .i32⟩
  | _ => ⟨S128x8192, .i32⟩

abbrev hbmTy0_14 (i : Nat) : BufTy := match i % 128 with
  | 0 => ⟨S128x8192, .i32⟩
  | 1 => ⟨S128x8192, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S_, .i32⟩
  | 8 => ⟨S128x8192, .i32⟩
  | 9 => ⟨S128x8192, .i32⟩
  | 10 => ⟨S128x8192, .i32⟩
  | 11 => ⟨S128x8192, .i32⟩
  | 12 => ⟨S128x8192, .i32⟩
  | 13 => ⟨S128x8192, .i32⟩
  | 14 => ⟨S128x8192, .i32⟩
  | 15 => ⟨S128x8192, .i32⟩
  | 16 => ⟨S_, .i32⟩
  | 17 => ⟨S128x8192, .i32⟩
  | 18 => ⟨S128x8192, .i32⟩
  | 19 => ⟨S128x8192, .i32⟩
  | 20 => ⟨S1x1, .i32⟩
  | 21 => ⟨S1x1, .i32⟩
  | 22 => ⟨S1x1, .i1⟩
  | 23 => ⟨S_, .i32⟩
  | 24 => ⟨S1x1, .i32⟩
  | 25 => ⟨S1x1, .i32⟩
  | 26 => ⟨S1x1, .i1⟩
  | 27 => ⟨S1x1, .i1⟩
  | 28 => ⟨S1x1, .i1⟩
  | 29 => ⟨S_, .i32⟩
  | 30 => ⟨S1x1, .i32⟩
  | 31 => ⟨S1x1, .i32⟩
  | 32 => ⟨S1x1, .i32⟩
  | 33 => ⟨S_, .i32⟩
  | 34 => ⟨S1x1, .i32⟩
  | 35 => ⟨S1x1, .i32⟩
  | 36 => ⟨S1x1, .i32⟩
  | 37 => ⟨S1x1, .i32⟩
  | 38 => ⟨S128x8192, .i32⟩
  | 39 => ⟨S128x8192, .i32⟩
  | 40 => ⟨S128x8192, .i32⟩
  | 41 => ⟨S128x8192, .i32⟩
  | 42 => ⟨S128x8192, .i32⟩
  | 43 => ⟨S128x8192, .i32⟩
  | 44 => ⟨S128x8192, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S128x8192, .i32⟩
  | _ => ⟨S128x8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S128x8192, .i32⟩

abbrev bufTy : (tb : Table) → Fin (tcTables nBuf tb) → BufTy
  | .hbm, ⟨i, _⟩ => hbmTy i
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_v14 : Ref sig .tc := ⟨.hbm, 255, rfl⟩
abbrev main_v15 : Ref sig .tc := ⟨.hbm, 256, rfl⟩
abbrev main_cst : Ref sig .tc := ⟨.hbm, 257, rfl⟩
abbrev main_call1_cst : Ref sig .tc := ⟨.hbm, 258, rfl⟩
abbrev main_call1_cst_0 : Ref sig .tc := ⟨.hbm, 259, rfl⟩
abbrev main_call1_call0_v0 : Ref sig .tc := ⟨.hbm, 260, rfl⟩
abbrev main_call1_call0_v1 : Ref sig .tc := ⟨.hbm, 261, rfl⟩
abbrev main_call1_call0_v2 : Ref sig .tc := ⟨.hbm, 262, rfl⟩
abbrev main_call1_call0_v3 : Ref sig .tc := ⟨.hbm, 263, rfl⟩
abbrev main_call1_call0_v4 : Ref sig .tc := ⟨.hbm, 264, rfl⟩
abbrev main_call1_call0_v5 : Ref sig .tc := ⟨.hbm, 265, rfl⟩
abbrev main_call1_call0_v6 : Ref sig .tc := ⟨.hbm, 266, rfl⟩
abbrev main_call1_call0_v7 : Ref sig .tc := ⟨.hbm, 267, rfl⟩
abbrev main_call1_call0_v8 : Ref sig .tc := ⟨.hbm, 268, rfl⟩
abbrev main_call1_call0_v9 : Ref sig .tc := ⟨.hbm, 269, rfl⟩
abbrev main_call1_call0_c : Ref sig .tc := ⟨.hbm, 270, rfl⟩
abbrev main_call1_call0_v10 : Ref sig .tc := ⟨.hbm, 271, rfl⟩
abbrev main_call1_call0_v11 : Ref sig .tc := ⟨.hbm, 272, rfl⟩
abbrev main_call1_call0_c_0 : Ref sig .tc := ⟨.hbm, 273, rfl⟩
abbrev main_call1_call0_v12 : Ref sig .tc := ⟨.hbm, 274, rfl⟩
abbrev main_call1_call0_v13 : Ref sig .tc := ⟨.hbm, 275, rfl⟩
abbrev main_call1_call0_v14 : Ref sig .tc := ⟨.hbm, 276, rfl⟩
abbrev main_call1_call0_c_1 : Ref sig .tc := ⟨.hbm, 277, rfl⟩
abbrev main_call1_call0_v15 : Ref sig .tc := ⟨.hbm, 278, rfl⟩
abbrev main_call1_call0_v16 : Ref sig .tc := ⟨.hbm, 279, rfl⟩
abbrev main_call1_call0_v17 : Ref sig .tc := ⟨.hbm, 280, rfl⟩
abbrev main_call1_call0_v18 : Ref sig .tc := ⟨.hbm, 281, rfl⟩
abbrev main_call1_call0_call0_v0 : Ref sig .tc := ⟨.hbm, 282, rfl⟩
abbrev main_call1_call0_call0_c : Ref sig .tc := ⟨.hbm, 283, rfl⟩
abbrev main_call1_call0_call0_v1 : Ref sig .tc := ⟨.hbm, 284, rfl⟩
abbrev main_call1_call0_call0_v2 : Ref sig .tc := ⟨.hbm, 285, rfl⟩
abbrev main_call1_call0_call0_v3 : Ref sig .tc := ⟨.hbm, 286, rfl⟩
abbrev main_call1_call0_call0_v4 : Ref sig .tc := ⟨.hbm, 287, rfl⟩
abbrev main_call1_call0_call0_v5 : Ref sig .tc := ⟨.hbm, 288, rfl⟩
abbrev main_call1_call0_call0_v6 : Ref sig .tc := ⟨.hbm, 289, rfl⟩
abbrev main_call1_call0_call0_c_0 : Ref sig .tc := ⟨.hbm, 290, rfl⟩
abbrev main_call1_call0_call0_v7 : Ref sig .tc := ⟨.hbm, 291, rfl⟩
abbrev main_call1_call0_call0_v8 : Ref sig .tc := ⟨.hbm, 292, rfl⟩
abbrev main_call1_call0_call0_c_1 : Ref sig .tc := ⟨.hbm, 293, rfl⟩
abbrev main_call1_call0_call0_v9 : Ref sig .tc := ⟨.hbm, 294, rfl⟩
abbrev main_call1_call0_call0_v10 : Ref sig .tc := ⟨.hbm, 295, rfl⟩
abbrev main_call1_call0_call0_v11 : Ref sig .tc := ⟨.hbm, 296, rfl⟩
abbrev main_call1_call0_call0_v12 : Ref sig .tc := ⟨.hbm, 297, rfl⟩
abbrev main_call1_call0_call0_v13 : Ref sig .tc := ⟨.hbm, 298, rfl⟩
abbrev main_call1_call0_call0_c_2 : Ref sig .tc := ⟨.hbm, 299, rfl⟩
abbrev main_call1_call0_call0_v14 : Ref sig .tc := ⟨.hbm, 300, rfl⟩
abbrev main_call1_call0_call0_v15 : Ref sig .tc := ⟨.hbm, 301, rfl⟩
abbrev main_call1_call0_call0_c_3 : Ref sig .tc := ⟨.hbm, 302, rfl⟩
abbrev main_call1_call0_call0_v16 : Ref sig .tc := ⟨.hbm, 303, rfl⟩
abbrev main_call1_call0_call0_v17 : Ref sig .tc := ⟨.hbm, 304, rfl⟩
abbrev main_call1_call0_call0_v18 : Ref sig .tc := ⟨.hbm, 305, rfl⟩
abbrev main_call1_call0_call0_v19 : Ref sig .tc := ⟨.hbm, 306, rfl⟩
abbrev main_call1_call0_call0_v20 : Ref sig .tc := ⟨.hbm, 307, rfl⟩
abbrev main_call1_call0_call0_c_4 : Ref sig .tc := ⟨.hbm, 308, rfl⟩
abbrev main_call1_call0_call0_v21 : Ref sig .tc := ⟨.hbm, 309, rfl⟩
abbrev main_call1_call0_call0_v22 : Ref sig .tc := ⟨.hbm, 310, rfl⟩
abbrev main_call1_call0_call0_c_5 : Ref sig .tc := ⟨.hbm, 311, rfl⟩
abbrev main_call1_call0_call0_v23 : Ref sig .tc := ⟨.hbm, 312, rfl⟩
abbrev main_call1_call0_call0_v24 : Ref sig .tc := ⟨.hbm, 313, rfl⟩
abbrev main_call1_call0_call0_v25 : Ref sig .tc := ⟨.hbm, 314, rfl⟩
abbrev main_call1_call0_call0_v26 : Ref sig .tc := ⟨.hbm, 315, rfl⟩
abbrev main_call1_call0_call0_v27 : Ref sig .tc := ⟨.hbm, 316, rfl⟩
abbrev main_call1_call0_call0_c_6 : Ref sig .tc := ⟨.hbm, 317, rfl⟩
abbrev main_call1_call0_call0_v28 : Ref sig .tc := ⟨.hbm, 318, rfl⟩
abbrev main_call1_call0_call0_v29 : Ref sig .tc := ⟨.hbm, 319, rfl⟩
abbrev main_call1_call0_call0_c_7 : Ref sig .tc := ⟨.hbm, 320, rfl⟩
abbrev main_call1_call0_call0_v30 : Ref sig .tc := ⟨.hbm, 321, rfl⟩
abbrev main_call1_call0_call0_v31 : Ref sig .tc := ⟨.hbm, 322, rfl⟩
abbrev main_call1_call0_call0_v32 : Ref sig .tc := ⟨.hbm, 323, rfl⟩
abbrev main_call1_call0_call0_v33 : Ref sig .tc := ⟨.hbm, 324, rfl⟩
abbrev main_call1_call0_call0_v34 : Ref sig .tc := ⟨.hbm, 325, rfl⟩
abbrev main_call1_call0_call0_v35 : Ref sig .tc := ⟨.hbm, 326, rfl⟩
abbrev main_call1_call0_call0_v36 : Ref sig .tc := ⟨.hbm, 327, rfl⟩
abbrev main_call1_call0_call0_v37 : Ref sig .tc := ⟨.hbm, 328, rfl⟩
abbrev main_call1_call0_call0_c_8 : Ref sig .tc := ⟨.hbm, 329, rfl⟩
abbrev main_call1_call0_call0_v38 : Ref sig .tc := ⟨.hbm, 330, rfl⟩
abbrev main_call1_call0_call0_v39 : Ref sig .tc := ⟨.hbm, 331, rfl⟩
abbrev main_call1_call0_call0_v40 : Ref sig .tc := ⟨.hbm, 332, rfl⟩
abbrev main_call1_call0_call0_c_9 : Ref sig .tc := ⟨.hbm, 333, rfl⟩
abbrev main_call1_call0_call0_v41 : Ref sig .tc := ⟨.hbm, 334, rfl⟩
abbrev main_call1_call0_call0_v42 : Ref sig .tc := ⟨.hbm, 335, rfl⟩
abbrev main_call1_call0_call0_c_10 : Ref sig .tc := ⟨.hbm, 336, rfl⟩
abbrev main_call1_call0_call0_v43 : Ref sig .tc := ⟨.hbm, 337, rfl⟩
abbrev main_call1_call0_call0_v44 : Ref sig .tc := ⟨.hbm, 338, rfl⟩
abbrev main_call1_call0_call0_v45 : Ref sig .tc := ⟨.hbm, 339, rfl⟩
abbrev main_call1_call0_call0_v46 : Ref sig .tc := ⟨.hbm, 340, rfl⟩
abbrev main_call1_call0_call0_v47 : Ref sig .tc := ⟨.hbm, 341, rfl⟩
abbrev main_call1_call0_call0_c_11 : Ref sig .tc := ⟨.hbm, 342, rfl⟩
abbrev main_call1_call0_call0_v48 : Ref sig .tc := ⟨.hbm, 343, rfl⟩
abbrev main_call1_call0_call0_v49 : Ref sig .tc := ⟨.hbm, 344, rfl⟩
abbrev main_call1_call0_call0_c_12 : Ref sig .tc := ⟨.hbm, 345, rfl⟩
abbrev main_call1_call0_call0_v50 : Ref sig .tc := ⟨.hbm, 346, rfl⟩
abbrev main_call1_call0_call0_v51 : Ref sig .tc := ⟨.hbm, 347, rfl⟩
abbrev main_call1_call0_call0_v52 : Ref sig .tc := ⟨.hbm, 348, rfl⟩
abbrev main_call1_call0_call0_v53 : Ref sig .tc := ⟨.hbm, 349, rfl⟩
abbrev main_call1_call0_call0_v54 : Ref sig .tc := ⟨.hbm, 350, rfl⟩
abbrev main_call1_call0_call0_c_13 : Ref sig .tc := ⟨.hbm, 351, rfl⟩
abbrev main_call1_call0_call0_v55 : Ref sig .tc := ⟨.hbm, 352, rfl⟩
abbrev main_call1_call0_call0_v56 : Ref sig .tc := ⟨.hbm, 353, rfl⟩
abbrev main_call1_call0_call0_c_14 : Ref sig .tc := ⟨.hbm, 354, rfl⟩
abbrev main_call1_call0_call0_v57 : Ref sig .tc := ⟨.hbm, 355, rfl⟩
abbrev main_call1_call0_call0_v58 : Ref sig .tc := ⟨.hbm, 356, rfl⟩
abbrev main_call1_call0_call0_v59 : Ref sig .tc := ⟨.hbm, 357, rfl⟩
abbrev main_call1_call0_call0_v60 : Ref sig .tc := ⟨.hbm, 358, rfl⟩
abbrev main_call1_call0_call0_v61 : Ref sig .tc := ⟨.hbm, 359, rfl⟩
abbrev main_call1_call0_call0_c_15 : Ref sig .tc := ⟨.hbm, 360, rfl⟩
abbrev main_call1_call0_call0_v62 : Ref sig .tc := ⟨.hbm, 361, rfl⟩
abbrev main_call1_call0_call0_v63 : Ref sig .tc := ⟨.hbm, 362, rfl⟩
abbrev main_call1_call0_call0_c_16 : Ref sig .tc := ⟨.hbm, 363, rfl⟩
abbrev main_call1_call0_call0_v64 : Ref sig .tc := ⟨.hbm, 364, rfl⟩
abbrev main_call1_call0_call0_v65 : Ref sig .tc := ⟨.hbm, 365, rfl⟩
abbrev main_call1_call0_call0_v66 : Ref sig .tc := ⟨.hbm, 366, rfl⟩
abbrev main_call1_call0_call0_v67 : Ref sig .tc := ⟨.hbm, 367, rfl⟩
abbrev main_call1_call0_call0_v68 : Ref sig .tc := ⟨.hbm, 368, rfl⟩
abbrev main_call1_call0_call0_v69 : Ref sig .tc := ⟨.hbm, 369, rfl⟩
abbrev main_call1_call0_call0_v70 : Ref sig .tc := ⟨.hbm, 370, rfl⟩
abbrev main_call1_call0_call0_v71 : Ref sig .tc := ⟨.hbm, 371, rfl⟩
abbrev main_call1_call0_call0_c_17 : Ref sig .tc := ⟨.hbm, 372, rfl⟩
abbrev main_call1_call0_call0_v72 : Ref sig .tc := ⟨.hbm, 373, rfl⟩
abbrev main_call1_call0_call0_v73 : Ref sig .tc := ⟨.hbm, 374, rfl⟩
abbrev main_call1_call0_call0_v74 : Ref sig .tc := ⟨.hbm, 375, rfl⟩
abbrev main_call1_call0_call0_c_18 : Ref sig .tc := ⟨.hbm, 376, rfl⟩
abbrev main_call1_call0_call0_v75 : Ref sig .tc := ⟨.hbm, 377, rfl⟩
abbrev main_call1_call0_call0_v76 : Ref sig .tc := ⟨.hbm, 378, rfl⟩
abbrev main_call1_call0_call0_c_19 : Ref sig .tc := ⟨.hbm, 379, rfl⟩
abbrev main_call1_call0_call0_v77 : Ref sig .tc := ⟨.hbm, 380, rfl⟩
abbrev main_call1_call0_call0_v78 : Ref sig .tc := ⟨.hbm, 381, rfl⟩
abbrev main_call1_call0_call0_v79 : Ref sig .tc := ⟨.hbm, 382, rfl⟩
abbrev main_call1_call0_call0_v80 : Ref sig .tc := ⟨.hbm, 383, rfl⟩
abbrev main_call1_call0_call0_v81 : Ref sig .tc := ⟨.hbm, 384, rfl⟩
abbrev main_call1_call0_call0_c_20 : Ref sig .tc := ⟨.hbm, 385, rfl⟩
abbrev main_call1_call0_call0_v82 : Ref sig .tc := ⟨.hbm, 386, rfl⟩
abbrev main_call1_call0_call0_v83 : Ref sig .tc := ⟨.hbm, 387, rfl⟩
abbrev main_call1_call0_call0_c_21 : Ref sig .tc := ⟨.hbm, 388, rfl⟩
abbrev main_call1_call0_call0_v84 : Ref sig .tc := ⟨.hbm, 389, rfl⟩
abbrev main_call1_call0_call0_v85 : Ref sig .tc := ⟨.hbm, 390, rfl⟩
abbrev main_call1_call0_call0_v86 : Ref sig .tc := ⟨.hbm, 391, rfl⟩
abbrev main_call1_call0_call0_v87 : Ref sig .tc := ⟨.hbm, 392, rfl⟩
abbrev main_call1_call0_call0_v88 : Ref sig .tc := ⟨.hbm, 393, rfl⟩
abbrev main_call1_call0_call0_c_22 : Ref sig .tc := ⟨.hbm, 394, rfl⟩
abbrev main_call1_call0_call0_v89 : Ref sig .tc := ⟨.hbm, 395, rfl⟩
abbrev main_call1_call0_call0_v90 : Ref sig .tc := ⟨.hbm, 396, rfl⟩
abbrev main_call1_call0_call0_c_23 : Ref sig .tc := ⟨.hbm, 397, rfl⟩
abbrev main_call1_call0_call0_v91 : Ref sig .tc := ⟨.hbm, 398, rfl⟩
abbrev main_call1_call0_call0_v92 : Ref sig .tc := ⟨.hbm, 399, rfl⟩
abbrev main_call1_call0_call0_v93 : Ref sig .tc := ⟨.hbm, 400, rfl⟩
abbrev main_call1_call0_call0_v94 : Ref sig .tc := ⟨.hbm, 401, rfl⟩
abbrev main_call1_call0_call0_v95 : Ref sig .tc := ⟨.hbm, 402, rfl⟩
abbrev main_call1_call0_call0_c_24 : Ref sig .tc := ⟨.hbm, 403, rfl⟩
abbrev main_call1_call0_call0_v96 : Ref sig .tc := ⟨.hbm, 404, rfl⟩
abbrev main_call1_call0_call0_v97 : Ref sig .tc := ⟨.hbm, 405, rfl⟩
abbrev main_call1_call0_call0_c_25 : Ref sig .tc := ⟨.hbm, 406, rfl⟩
abbrev main_call1_call0_call0_v98 : Ref sig .tc := ⟨.hbm, 407, rfl⟩
abbrev main_call1_call0_call0_v99 : Ref sig .tc := ⟨.hbm, 408, rfl⟩
abbrev main_call1_call0_call0_v100 : Ref sig .tc := ⟨.hbm, 409, rfl⟩
abbrev main_call1_call0_call0_v101 : Ref sig .tc := ⟨.hbm, 410, rfl⟩
abbrev main_call1_call0_call0_v102 : Ref sig .tc := ⟨.hbm, 411, rfl⟩
abbrev main_call1_call0_call0_v103 : Ref sig .tc := ⟨.hbm, 412, rfl⟩
abbrev main_call1_call0_call0_v104 : Ref sig .tc := ⟨.hbm, 413, rfl⟩
abbrev main_call1_call0_call0_v105 : Ref sig .tc := ⟨.hbm, 414, rfl⟩
abbrev main_call1_call0_call0_c_26 : Ref sig .tc := ⟨.hbm, 415, rfl⟩
abbrev main_call1_call0_call0_v106 : Ref sig .tc := ⟨.hbm, 416, rfl⟩
abbrev main_call1_call0_call0_v107 : Ref sig .tc := ⟨.hbm, 417, rfl⟩
abbrev main_call1_call0_call0_v108 : Ref sig .tc := ⟨.hbm, 418, rfl⟩
abbrev main_call1_call0_call0_c_27 : Ref sig .tc := ⟨.hbm, 419, rfl⟩
abbrev main_call1_call0_call0_v109 : Ref sig .tc := ⟨.hbm, 420, rfl⟩
abbrev main_call1_call0_call0_v110 : Ref sig .tc := ⟨.hbm, 421, rfl⟩
abbrev main_call1_call0_call0_c_28 : Ref sig .tc := ⟨.hbm, 422, rfl⟩
abbrev main_call1_call0_call0_v111 : Ref sig .tc := ⟨.hbm, 423, rfl⟩
abbrev main_call1_call0_call0_v112 : Ref sig .tc := ⟨.hbm, 424, rfl⟩
abbrev main_call1_call0_call0_v113 : Ref sig .tc := ⟨.hbm, 425, rfl⟩
abbrev main_call1_call0_call0_v114 : Ref sig .tc := ⟨.hbm, 426, rfl⟩
abbrev main_call1_call0_call0_v115 : Ref sig .tc := ⟨.hbm, 427, rfl⟩
abbrev main_call1_call0_call0_c_29 : Ref sig .tc := ⟨.hbm, 428, rfl⟩
abbrev main_call1_call0_call0_v116 : Ref sig .tc := ⟨.hbm, 429, rfl⟩
abbrev main_call1_call0_call0_v117 : Ref sig .tc := ⟨.hbm, 430, rfl⟩
abbrev main_call1_call0_call0_c_30 : Ref sig .tc := ⟨.hbm, 431, rfl⟩
abbrev main_call1_call0_call0_v118 : Ref sig .tc := ⟨.hbm, 432, rfl⟩
abbrev main_call1_call0_call0_v119 : Ref sig .tc := ⟨.hbm, 433, rfl⟩
abbrev main_call1_call0_call0_v120 : Ref sig .tc := ⟨.hbm, 434, rfl⟩
abbrev main_call1_call0_call0_v121 : Ref sig .tc := ⟨.hbm, 435, rfl⟩
abbrev main_call1_call0_call0_v122 : Ref sig .tc := ⟨.hbm, 436, rfl⟩
abbrev main_call1_call0_call0_c_31 : Ref sig .tc := ⟨.hbm, 437, rfl⟩
abbrev main_call1_call0_call0_v123 : Ref sig .tc := ⟨.hbm, 438, rfl⟩
abbrev main_call1_call0_call0_v124 : Ref sig .tc := ⟨.hbm, 439, rfl⟩
abbrev main_call1_call0_call0_c_32 : Ref sig .tc := ⟨.hbm, 440, rfl⟩
abbrev main_call1_call0_call0_v125 : Ref sig .tc := ⟨.hbm, 441, rfl⟩
abbrev main_call1_call0_call0_v126 : Ref sig .tc := ⟨.hbm, 442, rfl⟩
abbrev main_call1_call0_call0_v127 : Ref sig .tc := ⟨.hbm, 443, rfl⟩
abbrev main_call1_call0_call0_v128 : Ref sig .tc := ⟨.hbm, 444, rfl⟩
abbrev main_call1_call0_call0_v129 : Ref sig .tc := ⟨.hbm, 445, rfl⟩
abbrev main_call1_call0_call0_c_33 : Ref sig .tc := ⟨.hbm, 446, rfl⟩
abbrev main_call1_call0_call0_v130 : Ref sig .tc := ⟨.hbm, 447, rfl⟩
abbrev main_call1_call0_call0_v131 : Ref sig .tc := ⟨.hbm, 448, rfl⟩
abbrev main_call1_call0_call0_c_34 : Ref sig .tc := ⟨.hbm, 449, rfl⟩
abbrev main_call1_call0_call0_v132 : Ref sig .tc := ⟨.hbm, 450, rfl⟩
abbrev main_call1_call0_call0_v133 : Ref sig .tc := ⟨.hbm, 451, rfl⟩
abbrev main_call1_call0_call0_v134 : Ref sig .tc := ⟨.hbm, 452, rfl⟩
abbrev main_call1_call0_call0_v135 : Ref sig .tc := ⟨.hbm, 453, rfl⟩
abbrev main_call1_call0_call0_v136 : Ref sig .tc := ⟨.hbm, 454, rfl⟩
abbrev main_call1_call0_call0_v137 : Ref sig .tc := ⟨.hbm, 455, rfl⟩
abbrev main_call1_call0_call0_v138 : Ref sig .tc := ⟨.hbm, 456, rfl⟩
abbrev main_call1_call0_call0_v139 : Ref sig .tc := ⟨.hbm, 457, rfl⟩
abbrev main_call1_call0_call0_c_35 : Ref sig .tc := ⟨.hbm, 458, rfl⟩
abbrev main_call1_call0_call0_v140 : Ref sig .tc := ⟨.hbm, 459, rfl⟩
abbrev main_call1_call0_call0_v141 : Ref sig .tc := ⟨.hbm, 460, rfl⟩
abbrev main_call1_call0_call0_v142 : Ref sig .tc := ⟨.hbm, 461, rfl⟩
abbrev main_call1_call0_call0_c_36 : Ref sig .tc := ⟨.hbm, 462, rfl⟩
abbrev main_call1_call0_call0_v143 : Ref sig .tc := ⟨.hbm, 463, rfl⟩
abbrev main_call1_call0_call0_v144 : Ref sig .tc := ⟨.hbm, 464, rfl⟩
abbrev main_call1_call0_call0_c_37 : Ref sig .tc := ⟨.hbm, 465, rfl⟩
abbrev main_call1_call0_call0_v145 : Ref sig .tc := ⟨.hbm, 466, rfl⟩
abbrev main_call1_call0_call0_v146 : Ref sig .tc := ⟨.hbm, 467, rfl⟩
abbrev main_call1_call0_call0_v147 : Ref sig .tc := ⟨.hbm, 468, rfl⟩
abbrev main_call1_call0_call0_v148 : Ref sig .tc := ⟨.hbm, 469, rfl⟩
abbrev main_call1_call0_call0_v149 : Ref sig .tc := ⟨.hbm, 470, rfl⟩
abbrev main_call1_call0_call0_c_38 : Ref sig .tc := ⟨.hbm, 471, rfl⟩
abbrev main_call1_call0_call0_v150 : Ref sig .tc := ⟨.hbm, 472, rfl⟩
abbrev main_call1_call0_call0_v151 : Ref sig .tc := ⟨.hbm, 473, rfl⟩
abbrev main_call1_call0_call0_c_39 : Ref sig .tc := ⟨.hbm, 474, rfl⟩
abbrev main_call1_call0_call0_v152 : Ref sig .tc := ⟨.hbm, 475, rfl⟩
abbrev main_call1_call0_call0_v153 : Ref sig .tc := ⟨.hbm, 476, rfl⟩
abbrev main_call1_call0_call0_v154 : Ref sig .tc := ⟨.hbm, 477, rfl⟩
abbrev main_call1_call0_call0_v155 : Ref sig .tc := ⟨.hbm, 478, rfl⟩
abbrev main_call1_call0_call0_v156 : Ref sig .tc := ⟨.hbm, 479, rfl⟩
abbrev main_call1_call0_call0_c_40 : Ref sig .tc := ⟨.hbm, 480, rfl⟩
abbrev main_call1_call0_call0_v157 : Ref sig .tc := ⟨.hbm, 481, rfl⟩
abbrev main_call1_call0_call0_v158 : Ref sig .tc := ⟨.hbm, 482, rfl⟩
abbrev main_call1_call0_call0_c_41 : Ref sig .tc := ⟨.hbm, 483, rfl⟩
abbrev main_call1_call0_call0_v159 : Ref sig .tc := ⟨.hbm, 484, rfl⟩
abbrev main_call1_call0_call0_v160 : Ref sig .tc := ⟨.hbm, 485, rfl⟩
abbrev main_call1_call0_call0_v161 : Ref sig .tc := ⟨.hbm, 486, rfl⟩
abbrev main_call1_call0_call0_v162 : Ref sig .tc := ⟨.hbm, 487, rfl⟩
abbrev main_call1_call0_call0_v163 : Ref sig .tc := ⟨.hbm, 488, rfl⟩
abbrev main_call1_call0_call0_c_42 : Ref sig .tc := ⟨.hbm, 489, rfl⟩
abbrev main_call1_call0_call0_v164 : Ref sig .tc := ⟨.hbm, 490, rfl⟩
abbrev main_call1_call0_call0_v165 : Ref sig .tc := ⟨.hbm, 491, rfl⟩
abbrev main_call1_call0_call0_c_43 : Ref sig .tc := ⟨.hbm, 492, rfl⟩
abbrev main_call1_call0_call0_v166 : Ref sig .tc := ⟨.hbm, 493, rfl⟩
abbrev main_call1_call0_call0_v167 : Ref sig .tc := ⟨.hbm, 494, rfl⟩
abbrev main_call1_call0_call0_v168 : Ref sig .tc := ⟨.hbm, 495, rfl⟩
abbrev main_call1_call0_call0_v169 : Ref sig .tc := ⟨.hbm, 496, rfl⟩
abbrev main_call1_call0_call0_v170 : Ref sig .tc := ⟨.hbm, 497, rfl⟩
abbrev main_call1_call0_v19_0 : Ref sig .tc := ⟨.hbm, 498, rfl⟩
abbrev main_call1_call0_call0_v172 : Ref sig .tc := ⟨.hbm, 499, rfl⟩
abbrev main_call1_call0_call0_v173 : Ref sig .tc := ⟨.hbm, 500, rfl⟩
abbrev main_call1_call0_call0_c_44 : Ref sig .tc := ⟨.hbm, 501, rfl⟩
abbrev main_call1_call0_call0_v174 : Ref sig .tc := ⟨.hbm, 502, rfl⟩
abbrev main_call1_call0_v19_1 : Ref sig .tc := ⟨.hbm, 503, rfl⟩
abbrev main_call1_call0_v20 : Ref sig .tc := ⟨.hbm, 504, rfl⟩
abbrev main_call1_call0_c_2 : Ref sig .tc := ⟨.hbm, 505, rfl⟩
abbrev main_call1_call0_v21 : Ref sig .tc := ⟨.hbm, 506, rfl⟩
abbrev main_call1_call0_v22 : Ref sig .tc := ⟨.hbm, 507, rfl⟩
abbrev main_call1_call0_c_3 : Ref sig .tc := ⟨.hbm, 508, rfl⟩
abbrev main_call1_call0_v23 : Ref sig .tc := ⟨.hbm, 509, rfl⟩
abbrev main_call1_call0_v24 : Ref sig .tc := ⟨.hbm, 510, rfl⟩
abbrev main_call1_call0_v25 : Ref sig .tc := ⟨.hbm, 511, rfl⟩
abbrev main_call1_call0_cst : Ref sig .tc := ⟨.hbm, 512, rfl⟩
abbrev main_call1_call0_v26 : Ref sig .tc := ⟨.hbm, 513, rfl⟩
abbrev main_call1_call0_v27 : Ref sig .tc := ⟨.hbm, 514, rfl⟩
abbrev main_call1_call0_v28 : Ref sig .tc := ⟨.hbm, 515, rfl⟩
abbrev main_call1_call0_v29 : Ref sig .tc := ⟨.hbm, 516, rfl⟩
abbrev main_call1_call0_v30 : Ref sig .tc := ⟨.hbm, 517, rfl⟩
abbrev main_call1_call0_v31 : Ref sig .tc := ⟨.hbm, 518, rfl⟩
abbrev main_call1_call0_v32 : Ref sig .tc := ⟨.hbm, 519, rfl⟩
abbrev main_call1_call0_v33 : Ref sig .tc := ⟨.hbm, 520, rfl⟩
abbrev main_call1_v0 : Ref sig .tc := ⟨.hbm, 521, rfl⟩
abbrev main_call1_v1 : Ref sig .tc := ⟨.hbm, 522, rfl⟩
abbrev main_v16 : Ref sig .tc := ⟨.hbm, 523, rfl⟩
abbrev main_c_2 : Ref sig .tc := ⟨.hbm, 524, rfl⟩
abbrev main_call2_v0 : Ref sig .tc := ⟨.hbm, 525, rfl⟩
abbrev main_v17 : Ref sig .tc := ⟨.hbm, 526, rfl⟩
abbrev main_cst_3 : Ref sig .tc := ⟨.hbm, 527, rfl⟩
abbrev main_call3_cst : Ref sig .tc := ⟨.hbm, 528, rfl⟩
abbrev main_call3_cst_0 : Ref sig .tc := ⟨.hbm, 529, rfl⟩
abbrev main_call3_call0_v0 : Ref sig .tc := ⟨.hbm, 530, rfl⟩
abbrev main_call3_call0_v1 : Ref sig .tc := ⟨.hbm, 531, rfl⟩
abbrev main_call3_call0_v2 : Ref sig .tc := ⟨.hbm, 532, rfl⟩
abbrev main_call3_call0_v3 : Ref sig .tc := ⟨.hbm, 533, rfl⟩
abbrev main_call3_call0_v4 : Ref sig .tc := ⟨.hbm, 534, rfl⟩
abbrev main_call3_call0_v5 : Ref sig .tc := ⟨.hbm, 535, rfl⟩
abbrev main_call3_call0_v6 : Ref sig .tc := ⟨.hbm, 536, rfl⟩
abbrev main_call3_call0_v7 : Ref sig .tc := ⟨.hbm, 537, rfl⟩
abbrev main_call3_call0_v8 : Ref sig .tc := ⟨.hbm, 538, rfl⟩
abbrev main_call3_call0_v9 : Ref sig .tc := ⟨.hbm, 539, rfl⟩
abbrev main_call3_call0_c : Ref sig .tc := ⟨.hbm, 540, rfl⟩
abbrev main_call3_call0_v10 : Ref sig .tc := ⟨.hbm, 541, rfl⟩
abbrev main_call3_call0_v11 : Ref sig .tc := ⟨.hbm, 542, rfl⟩
abbrev main_call3_call0_c_0 : Ref sig .tc := ⟨.hbm, 543, rfl⟩
abbrev main_call3_call0_v12 : Ref sig .tc := ⟨.hbm, 544, rfl⟩
abbrev main_call3_call0_v13 : Ref sig .tc := ⟨.hbm, 545, rfl⟩
abbrev main_call3_call0_v14 : Ref sig .tc := ⟨.hbm, 546, rfl⟩
abbrev main_call3_call0_c_1 : Ref sig .tc := ⟨.hbm, 547, rfl⟩
abbrev main_call3_call0_v15 : Ref sig .tc := ⟨.hbm, 548, rfl⟩
abbrev main_call3_call0_v16 : Ref sig .tc := ⟨.hbm, 549, rfl⟩
abbrev main_call3_call0_v17 : Ref sig .tc := ⟨.hbm, 550, rfl⟩
abbrev main_call3_call0_v18 : Ref sig .tc := ⟨.hbm, 551, rfl⟩
abbrev main_call3_call0_call0_v0 : Ref sig .tc := ⟨.hbm, 552, rfl⟩
abbrev main_call3_call0_call0_c : Ref sig .tc := ⟨.hbm, 553, rfl⟩
abbrev main_call3_call0_call0_v1 : Ref sig .tc := ⟨.hbm, 554, rfl⟩
abbrev main_call3_call0_call0_v2 : Ref sig .tc := ⟨.hbm, 555, rfl⟩
abbrev main_call3_call0_call0_v3 : Ref sig .tc := ⟨.hbm, 556, rfl⟩
abbrev main_call3_call0_call0_v4 : Ref sig .tc := ⟨.hbm, 557, rfl⟩
abbrev main_call3_call0_call0_v5 : Ref sig .tc := ⟨.hbm, 558, rfl⟩
abbrev main_call3_call0_call0_v6 : Ref sig .tc := ⟨.hbm, 559, rfl⟩
abbrev main_call3_call0_call0_c_0 : Ref sig .tc := ⟨.hbm, 560, rfl⟩
abbrev main_call3_call0_call0_v7 : Ref sig .tc := ⟨.hbm, 561, rfl⟩
abbrev main_call3_call0_call0_v8 : Ref sig .tc := ⟨.hbm, 562, rfl⟩
abbrev main_call3_call0_call0_c_1 : Ref sig .tc := ⟨.hbm, 563, rfl⟩
abbrev main_call3_call0_call0_v9 : Ref sig .tc := ⟨.hbm, 564, rfl⟩
abbrev main_call3_call0_call0_v10 : Ref sig .tc := ⟨.hbm, 565, rfl⟩
abbrev main_call3_call0_call0_v11 : Ref sig .tc := ⟨.hbm, 566, rfl⟩
abbrev main_call3_call0_call0_v12 : Ref sig .tc := ⟨.hbm, 567, rfl⟩
abbrev main_call3_call0_call0_v13 : Ref sig .tc := ⟨.hbm, 568, rfl⟩
abbrev main_call3_call0_call0_c_2 : Ref sig .tc := ⟨.hbm, 569, rfl⟩
abbrev main_call3_call0_call0_v14 : Ref sig .tc := ⟨.hbm, 570, rfl⟩
abbrev main_call3_call0_call0_v15 : Ref sig .tc := ⟨.hbm, 571, rfl⟩
abbrev main_call3_call0_call0_c_3 : Ref sig .tc := ⟨.hbm, 572, rfl⟩
abbrev main_call3_call0_call0_v16 : Ref sig .tc := ⟨.hbm, 573, rfl⟩
abbrev main_call3_call0_call0_v17 : Ref sig .tc := ⟨.hbm, 574, rfl⟩
abbrev main_call3_call0_call0_v18 : Ref sig .tc := ⟨.hbm, 575, rfl⟩
abbrev main_call3_call0_call0_v19 : Ref sig .tc := ⟨.hbm, 576, rfl⟩
abbrev main_call3_call0_call0_v20 : Ref sig .tc := ⟨.hbm, 577, rfl⟩
abbrev main_call3_call0_call0_c_4 : Ref sig .tc := ⟨.hbm, 578, rfl⟩
abbrev main_call3_call0_call0_v21 : Ref sig .tc := ⟨.hbm, 579, rfl⟩
abbrev main_call3_call0_call0_v22 : Ref sig .tc := ⟨.hbm, 580, rfl⟩
abbrev main_call3_call0_call0_c_5 : Ref sig .tc := ⟨.hbm, 581, rfl⟩
abbrev main_call3_call0_call0_v23 : Ref sig .tc := ⟨.hbm, 582, rfl⟩
abbrev main_call3_call0_call0_v24 : Ref sig .tc := ⟨.hbm, 583, rfl⟩
abbrev main_call3_call0_call0_v25 : Ref sig .tc := ⟨.hbm, 584, rfl⟩
abbrev main_call3_call0_call0_v26 : Ref sig .tc := ⟨.hbm, 585, rfl⟩
abbrev main_call3_call0_call0_v27 : Ref sig .tc := ⟨.hbm, 586, rfl⟩
abbrev main_call3_call0_call0_c_6 : Ref sig .tc := ⟨.hbm, 587, rfl⟩
abbrev main_call3_call0_call0_v28 : Ref sig .tc := ⟨.hbm, 588, rfl⟩
abbrev main_call3_call0_call0_v29 : Ref sig .tc := ⟨.hbm, 589, rfl⟩
abbrev main_call3_call0_call0_c_7 : Ref sig .tc := ⟨.hbm, 590, rfl⟩
abbrev main_call3_call0_call0_v30 : Ref sig .tc := ⟨.hbm, 591, rfl⟩
abbrev main_call3_call0_call0_v31 : Ref sig .tc := ⟨.hbm, 592, rfl⟩
abbrev main_call3_call0_call0_v32 : Ref sig .tc := ⟨.hbm, 593, rfl⟩
abbrev main_call3_call0_call0_v33 : Ref sig .tc := ⟨.hbm, 594, rfl⟩
abbrev main_call3_call0_call0_v34 : Ref sig .tc := ⟨.hbm, 595, rfl⟩
abbrev main_call3_call0_call0_v35 : Ref sig .tc := ⟨.hbm, 596, rfl⟩
abbrev main_call3_call0_call0_v36 : Ref sig .tc := ⟨.hbm, 597, rfl⟩
abbrev main_call3_call0_call0_v37 : Ref sig .tc := ⟨.hbm, 598, rfl⟩
abbrev main_call3_call0_call0_c_8 : Ref sig .tc := ⟨.hbm, 599, rfl⟩
abbrev main_call3_call0_call0_v38 : Ref sig .tc := ⟨.hbm, 600, rfl⟩
abbrev main_call3_call0_call0_v39 : Ref sig .tc := ⟨.hbm, 601, rfl⟩
abbrev main_call3_call0_call0_v40 : Ref sig .tc := ⟨.hbm, 602, rfl⟩
abbrev main_call3_call0_call0_c_9 : Ref sig .tc := ⟨.hbm, 603, rfl⟩
abbrev main_call3_call0_call0_v41 : Ref sig .tc := ⟨.hbm, 604, rfl⟩
abbrev main_call3_call0_call0_v42 : Ref sig .tc := ⟨.hbm, 605, rfl⟩
abbrev main_call3_call0_call0_c_10 : Ref sig .tc := ⟨.hbm, 606, rfl⟩
abbrev main_call3_call0_call0_v43 : Ref sig .tc := ⟨.hbm, 607, rfl⟩
abbrev main_call3_call0_call0_v44 : Ref sig .tc := ⟨.hbm, 608, rfl⟩
abbrev main_call3_call0_call0_v45 : Ref sig .tc := ⟨.hbm, 609, rfl⟩
abbrev main_call3_call0_call0_v46 : Ref sig .tc := ⟨.hbm, 610, rfl⟩
abbrev main_call3_call0_call0_v47 : Ref sig .tc := ⟨.hbm, 611, rfl⟩
abbrev main_call3_call0_call0_c_11 : Ref sig .tc := ⟨.hbm, 612, rfl⟩
abbrev main_call3_call0_call0_v48 : Ref sig .tc := ⟨.hbm, 613, rfl⟩
abbrev main_call3_call0_call0_v49 : Ref sig .tc := ⟨.hbm, 614, rfl⟩
abbrev main_call3_call0_call0_c_12 : Ref sig .tc := ⟨.hbm, 615, rfl⟩
abbrev main_call3_call0_call0_v50 : Ref sig .tc := ⟨.hbm, 616, rfl⟩
abbrev main_call3_call0_call0_v51 : Ref sig .tc := ⟨.hbm, 617, rfl⟩
abbrev main_call3_call0_call0_v52 : Ref sig .tc := ⟨.hbm, 618, rfl⟩
abbrev main_call3_call0_call0_v53 : Ref sig .tc := ⟨.hbm, 619, rfl⟩
abbrev main_call3_call0_call0_v54 : Ref sig .tc := ⟨.hbm, 620, rfl⟩
abbrev main_call3_call0_call0_c_13 : Ref sig .tc := ⟨.hbm, 621, rfl⟩
abbrev main_call3_call0_call0_v55 : Ref sig .tc := ⟨.hbm, 622, rfl⟩
abbrev main_call3_call0_call0_v56 : Ref sig .tc := ⟨.hbm, 623, rfl⟩
abbrev main_call3_call0_call0_c_14 : Ref sig .tc := ⟨.hbm, 624, rfl⟩
abbrev main_call3_call0_call0_v57 : Ref sig .tc := ⟨.hbm, 625, rfl⟩
abbrev main_call3_call0_call0_v58 : Ref sig .tc := ⟨.hbm, 626, rfl⟩
abbrev main_call3_call0_call0_v59 : Ref sig .tc := ⟨.hbm, 627, rfl⟩
abbrev main_call3_call0_call0_v60 : Ref sig .tc := ⟨.hbm, 628, rfl⟩
abbrev main_call3_call0_call0_v61 : Ref sig .tc := ⟨.hbm, 629, rfl⟩
abbrev main_call3_call0_call0_c_15 : Ref sig .tc := ⟨.hbm, 630, rfl⟩
abbrev main_call3_call0_call0_v62 : Ref sig .tc := ⟨.hbm, 631, rfl⟩
abbrev main_call3_call0_call0_v63 : Ref sig .tc := ⟨.hbm, 632, rfl⟩
abbrev main_call3_call0_call0_c_16 : Ref sig .tc := ⟨.hbm, 633, rfl⟩
abbrev main_call3_call0_call0_v64 : Ref sig .tc := ⟨.hbm, 634, rfl⟩
abbrev main_call3_call0_call0_v65 : Ref sig .tc := ⟨.hbm, 635, rfl⟩
abbrev main_call3_call0_call0_v66 : Ref sig .tc := ⟨.hbm, 636, rfl⟩
abbrev main_call3_call0_call0_v67 : Ref sig .tc := ⟨.hbm, 637, rfl⟩
abbrev main_call3_call0_call0_v68 : Ref sig .tc := ⟨.hbm, 638, rfl⟩
abbrev main_call3_call0_call0_v69 : Ref sig .tc := ⟨.hbm, 639, rfl⟩
abbrev main_call3_call0_call0_v70 : Ref sig .tc := ⟨.hbm, 640, rfl⟩
abbrev main_call3_call0_call0_v71 : Ref sig .tc := ⟨.hbm, 641, rfl⟩
abbrev main_call3_call0_call0_c_17 : Ref sig .tc := ⟨.hbm, 642, rfl⟩
abbrev main_call3_call0_call0_v72 : Ref sig .tc := ⟨.hbm, 643, rfl⟩
abbrev main_call3_call0_call0_v73 : Ref sig .tc := ⟨.hbm, 644, rfl⟩
abbrev main_call3_call0_call0_v74 : Ref sig .tc := ⟨.hbm, 645, rfl⟩
abbrev main_call3_call0_call0_c_18 : Ref sig .tc := ⟨.hbm, 646, rfl⟩
abbrev main_call3_call0_call0_v75 : Ref sig .tc := ⟨.hbm, 647, rfl⟩
abbrev main_call3_call0_call0_v76 : Ref sig .tc := ⟨.hbm, 648, rfl⟩
abbrev main_call3_call0_call0_c_19 : Ref sig .tc := ⟨.hbm, 649, rfl⟩
abbrev main_call3_call0_call0_v77 : Ref sig .tc := ⟨.hbm, 650, rfl⟩
abbrev main_call3_call0_call0_v78 : Ref sig .tc := ⟨.hbm, 651, rfl⟩
abbrev main_call3_call0_call0_v79 : Ref sig .tc := ⟨.hbm, 652, rfl⟩
abbrev main_call3_call0_call0_v80 : Ref sig .tc := ⟨.hbm, 653, rfl⟩
abbrev main_call3_call0_call0_v81 : Ref sig .tc := ⟨.hbm, 654, rfl⟩
abbrev main_call3_call0_call0_c_20 : Ref sig .tc := ⟨.hbm, 655, rfl⟩
abbrev main_call3_call0_call0_v82 : Ref sig .tc := ⟨.hbm, 656, rfl⟩
abbrev main_call3_call0_call0_v83 : Ref sig .tc := ⟨.hbm, 657, rfl⟩
abbrev main_call3_call0_call0_c_21 : Ref sig .tc := ⟨.hbm, 658, rfl⟩
abbrev main_call3_call0_call0_v84 : Ref sig .tc := ⟨.hbm, 659, rfl⟩
abbrev main_call3_call0_call0_v85 : Ref sig .tc := ⟨.hbm, 660, rfl⟩
abbrev main_call3_call0_call0_v86 : Ref sig .tc := ⟨.hbm, 661, rfl⟩
abbrev main_call3_call0_call0_v87 : Ref sig .tc := ⟨.hbm, 662, rfl⟩
abbrev main_call3_call0_call0_v88 : Ref sig .tc := ⟨.hbm, 663, rfl⟩
abbrev main_call3_call0_call0_c_22 : Ref sig .tc := ⟨.hbm, 664, rfl⟩
abbrev main_call3_call0_call0_v89 : Ref sig .tc := ⟨.hbm, 665, rfl⟩
abbrev main_call3_call0_call0_v90 : Ref sig .tc := ⟨.hbm, 666, rfl⟩
abbrev main_call3_call0_call0_c_23 : Ref sig .tc := ⟨.hbm, 667, rfl⟩
abbrev main_call3_call0_call0_v91 : Ref sig .tc := ⟨.hbm, 668, rfl⟩
abbrev main_call3_call0_call0_v92 : Ref sig .tc := ⟨.hbm, 669, rfl⟩
abbrev main_call3_call0_call0_v93 : Ref sig .tc := ⟨.hbm, 670, rfl⟩
abbrev main_call3_call0_call0_v94 : Ref sig .tc := ⟨.hbm, 671, rfl⟩
abbrev main_call3_call0_call0_v95 : Ref sig .tc := ⟨.hbm, 672, rfl⟩
abbrev main_call3_call0_call0_c_24 : Ref sig .tc := ⟨.hbm, 673, rfl⟩
abbrev main_call3_call0_call0_v96 : Ref sig .tc := ⟨.hbm, 674, rfl⟩
abbrev main_call3_call0_call0_v97 : Ref sig .tc := ⟨.hbm, 675, rfl⟩
abbrev main_call3_call0_call0_c_25 : Ref sig .tc := ⟨.hbm, 676, rfl⟩
abbrev main_call3_call0_call0_v98 : Ref sig .tc := ⟨.hbm, 677, rfl⟩
abbrev main_call3_call0_call0_v99 : Ref sig .tc := ⟨.hbm, 678, rfl⟩
abbrev main_call3_call0_call0_v100 : Ref sig .tc := ⟨.hbm, 679, rfl⟩
abbrev main_call3_call0_call0_v101 : Ref sig .tc := ⟨.hbm, 680, rfl⟩
abbrev main_call3_call0_call0_v102 : Ref sig .tc := ⟨.hbm, 681, rfl⟩
abbrev main_call3_call0_call0_v103 : Ref sig .tc := ⟨.hbm, 682, rfl⟩
abbrev main_call3_call0_call0_v104 : Ref sig .tc := ⟨.hbm, 683, rfl⟩
abbrev main_call3_call0_call0_v105 : Ref sig .tc := ⟨.hbm, 684, rfl⟩
abbrev main_call3_call0_call0_c_26 : Ref sig .tc := ⟨.hbm, 685, rfl⟩
abbrev main_call3_call0_call0_v106 : Ref sig .tc := ⟨.hbm, 686, rfl⟩
abbrev main_call3_call0_call0_v107 : Ref sig .tc := ⟨.hbm, 687, rfl⟩
abbrev main_call3_call0_call0_v108 : Ref sig .tc := ⟨.hbm, 688, rfl⟩
abbrev main_call3_call0_call0_c_27 : Ref sig .tc := ⟨.hbm, 689, rfl⟩
abbrev main_call3_call0_call0_v109 : Ref sig .tc := ⟨.hbm, 690, rfl⟩
abbrev main_call3_call0_call0_v110 : Ref sig .tc := ⟨.hbm, 691, rfl⟩
abbrev main_call3_call0_call0_c_28 : Ref sig .tc := ⟨.hbm, 692, rfl⟩
abbrev main_call3_call0_call0_v111 : Ref sig .tc := ⟨.hbm, 693, rfl⟩
abbrev main_call3_call0_call0_v112 : Ref sig .tc := ⟨.hbm, 694, rfl⟩
abbrev main_call3_call0_call0_v113 : Ref sig .tc := ⟨.hbm, 695, rfl⟩
abbrev main_call3_call0_call0_v114 : Ref sig .tc := ⟨.hbm, 696, rfl⟩
abbrev main_call3_call0_call0_v115 : Ref sig .tc := ⟨.hbm, 697, rfl⟩
abbrev main_call3_call0_call0_c_29 : Ref sig .tc := ⟨.hbm, 698, rfl⟩
abbrev main_call3_call0_call0_v116 : Ref sig .tc := ⟨.hbm, 699, rfl⟩
abbrev main_call3_call0_call0_v117 : Ref sig .tc := ⟨.hbm, 700, rfl⟩
abbrev main_call3_call0_call0_c_30 : Ref sig .tc := ⟨.hbm, 701, rfl⟩
abbrev main_call3_call0_call0_v118 : Ref sig .tc := ⟨.hbm, 702, rfl⟩
abbrev main_call3_call0_call0_v119 : Ref sig .tc := ⟨.hbm, 703, rfl⟩
abbrev main_call3_call0_call0_v120 : Ref sig .tc := ⟨.hbm, 704, rfl⟩
abbrev main_call3_call0_call0_v121 : Ref sig .tc := ⟨.hbm, 705, rfl⟩
abbrev main_call3_call0_call0_v122 : Ref sig .tc := ⟨.hbm, 706, rfl⟩
abbrev main_call3_call0_call0_c_31 : Ref sig .tc := ⟨.hbm, 707, rfl⟩
abbrev main_call3_call0_call0_v123 : Ref sig .tc := ⟨.hbm, 708, rfl⟩
abbrev main_call3_call0_call0_v124 : Ref sig .tc := ⟨.hbm, 709, rfl⟩
abbrev main_call3_call0_call0_c_32 : Ref sig .tc := ⟨.hbm, 710, rfl⟩
abbrev main_call3_call0_call0_v125 : Ref sig .tc := ⟨.hbm, 711, rfl⟩
abbrev main_call3_call0_call0_v126 : Ref sig .tc := ⟨.hbm, 712, rfl⟩
abbrev main_call3_call0_call0_v127 : Ref sig .tc := ⟨.hbm, 713, rfl⟩
abbrev main_call3_call0_call0_v128 : Ref sig .tc := ⟨.hbm, 714, rfl⟩
abbrev main_call3_call0_call0_v129 : Ref sig .tc := ⟨.hbm, 715, rfl⟩
abbrev main_call3_call0_call0_c_33 : Ref sig .tc := ⟨.hbm, 716, rfl⟩
abbrev main_call3_call0_call0_v130 : Ref sig .tc := ⟨.hbm, 717, rfl⟩
abbrev main_call3_call0_call0_v131 : Ref sig .tc := ⟨.hbm, 718, rfl⟩
abbrev main_call3_call0_call0_c_34 : Ref sig .tc := ⟨.hbm, 719, rfl⟩
abbrev main_call3_call0_call0_v132 : Ref sig .tc := ⟨.hbm, 720, rfl⟩
abbrev main_call3_call0_call0_v133 : Ref sig .tc := ⟨.hbm, 721, rfl⟩
abbrev main_call3_call0_call0_v134 : Ref sig .tc := ⟨.hbm, 722, rfl⟩
abbrev main_call3_call0_call0_v135 : Ref sig .tc := ⟨.hbm, 723, rfl⟩
abbrev main_call3_call0_call0_v136 : Ref sig .tc := ⟨.hbm, 724, rfl⟩
abbrev main_call3_call0_call0_v137 : Ref sig .tc := ⟨.hbm, 725, rfl⟩
abbrev main_call3_call0_call0_v138 : Ref sig .tc := ⟨.hbm, 726, rfl⟩
abbrev main_call3_call0_call0_v139 : Ref sig .tc := ⟨.hbm, 727, rfl⟩
abbrev main_call3_call0_call0_c_35 : Ref sig .tc := ⟨.hbm, 728, rfl⟩
abbrev main_call3_call0_call0_v140 : Ref sig .tc := ⟨.hbm, 729, rfl⟩
abbrev main_call3_call0_call0_v141 : Ref sig .tc := ⟨.hbm, 730, rfl⟩
abbrev main_call3_call0_call0_v142 : Ref sig .tc := ⟨.hbm, 731, rfl⟩
abbrev main_call3_call0_call0_c_36 : Ref sig .tc := ⟨.hbm, 732, rfl⟩
abbrev main_call3_call0_call0_v143 : Ref sig .tc := ⟨.hbm, 733, rfl⟩
abbrev main_call3_call0_call0_v144 : Ref sig .tc := ⟨.hbm, 734, rfl⟩
abbrev main_call3_call0_call0_c_37 : Ref sig .tc := ⟨.hbm, 735, rfl⟩
abbrev main_call3_call0_call0_v145 : Ref sig .tc := ⟨.hbm, 736, rfl⟩
abbrev main_call3_call0_call0_v146 : Ref sig .tc := ⟨.hbm, 737, rfl⟩
abbrev main_call3_call0_call0_v147 : Ref sig .tc := ⟨.hbm, 738, rfl⟩
abbrev main_call3_call0_call0_v148 : Ref sig .tc := ⟨.hbm, 739, rfl⟩
abbrev main_call3_call0_call0_v149 : Ref sig .tc := ⟨.hbm, 740, rfl⟩
abbrev main_call3_call0_call0_c_38 : Ref sig .tc := ⟨.hbm, 741, rfl⟩
abbrev main_call3_call0_call0_v150 : Ref sig .tc := ⟨.hbm, 742, rfl⟩
abbrev main_call3_call0_call0_v151 : Ref sig .tc := ⟨.hbm, 743, rfl⟩
abbrev main_call3_call0_call0_c_39 : Ref sig .tc := ⟨.hbm, 744, rfl⟩
abbrev main_call3_call0_call0_v152 : Ref sig .tc := ⟨.hbm, 745, rfl⟩
abbrev main_call3_call0_call0_v153 : Ref sig .tc := ⟨.hbm, 746, rfl⟩
abbrev main_call3_call0_call0_v154 : Ref sig .tc := ⟨.hbm, 747, rfl⟩
abbrev main_call3_call0_call0_v155 : Ref sig .tc := ⟨.hbm, 748, rfl⟩
abbrev main_call3_call0_call0_v156 : Ref sig .tc := ⟨.hbm, 749, rfl⟩
abbrev main_call3_call0_call0_c_40 : Ref sig .tc := ⟨.hbm, 750, rfl⟩
abbrev main_call3_call0_call0_v157 : Ref sig .tc := ⟨.hbm, 751, rfl⟩
abbrev main_call3_call0_call0_v158 : Ref sig .tc := ⟨.hbm, 752, rfl⟩
abbrev main_call3_call0_call0_c_41 : Ref sig .tc := ⟨.hbm, 753, rfl⟩
abbrev main_call3_call0_call0_v159 : Ref sig .tc := ⟨.hbm, 754, rfl⟩
abbrev main_call3_call0_call0_v160 : Ref sig .tc := ⟨.hbm, 755, rfl⟩
abbrev main_call3_call0_call0_v161 : Ref sig .tc := ⟨.hbm, 756, rfl⟩
abbrev main_call3_call0_call0_v162 : Ref sig .tc := ⟨.hbm, 757, rfl⟩
abbrev main_call3_call0_call0_v163 : Ref sig .tc := ⟨.hbm, 758, rfl⟩
abbrev main_call3_call0_call0_c_42 : Ref sig .tc := ⟨.hbm, 759, rfl⟩
abbrev main_call3_call0_call0_v164 : Ref sig .tc := ⟨.hbm, 760, rfl⟩
abbrev main_call3_call0_call0_v165 : Ref sig .tc := ⟨.hbm, 761, rfl⟩
abbrev main_call3_call0_call0_c_43 : Ref sig .tc := ⟨.hbm, 762, rfl⟩
abbrev main_call3_call0_call0_v166 : Ref sig .tc := ⟨.hbm, 763, rfl⟩
abbrev main_call3_call0_call0_v167 : Ref sig .tc := ⟨.hbm, 764, rfl⟩
abbrev main_call3_call0_call0_v168 : Ref sig .tc := ⟨.hbm, 765, rfl⟩
abbrev main_call3_call0_call0_v169 : Ref sig .tc := ⟨.hbm, 766, rfl⟩
abbrev main_call3_call0_call0_v170 : Ref sig .tc := ⟨.hbm, 767, rfl⟩
abbrev main_call3_call0_v19_0 : Ref sig .tc := ⟨.hbm, 768, rfl⟩
abbrev main_call3_call0_call0_v172 : Ref sig .tc := ⟨.hbm, 769, rfl⟩
abbrev main_call3_call0_call0_v173 : Ref sig .tc := ⟨.hbm, 770, rfl⟩
abbrev main_call3_call0_call0_c_44 : Ref sig .tc := ⟨.hbm, 771, rfl⟩
abbrev main_call3_call0_call0_v174 : Ref sig .tc := ⟨.hbm, 772, rfl⟩
abbrev main_call3_call0_v19_1 : Ref sig .tc := ⟨.hbm, 773, rfl⟩
abbrev main_call3_call0_v20 : Ref sig .tc := ⟨.hbm, 774, rfl⟩
abbrev main_call3_call0_c_2 : Ref sig .tc := ⟨.hbm, 775, rfl⟩
abbrev main_call3_call0_v21 : Ref sig .tc := ⟨.hbm, 776, rfl⟩
abbrev main_call3_call0_v22 : Ref sig .tc := ⟨.hbm, 777, rfl⟩
abbrev main_call3_call0_c_3 : Ref sig .tc := ⟨.hbm, 778, rfl⟩
abbrev main_call3_call0_v23 : Ref sig .tc := ⟨.hbm, 779, rfl⟩
abbrev main_call3_call0_v24 : Ref sig .tc := ⟨.hbm, 780, rfl⟩
abbrev main_call3_call0_v25 : Ref sig .tc := ⟨.hbm, 781, rfl⟩
abbrev main_call3_call0_cst : Ref sig .tc := ⟨.hbm, 782, rfl⟩
abbrev main_call3_call0_v26 : Ref sig .tc := ⟨.hbm, 783, rfl⟩
abbrev main_call3_call0_v27 : Ref sig .tc := ⟨.hbm, 784, rfl⟩
abbrev main_call3_call0_v28 : Ref sig .tc := ⟨.hbm, 785, rfl⟩
abbrev main_call3_call0_v29 : Ref sig .tc := ⟨.hbm, 786, rfl⟩
abbrev main_call3_call0_v30 : Ref sig .tc := ⟨.hbm, 787, rfl⟩
abbrev main_call3_call0_v31 : Ref sig .tc := ⟨.hbm, 788, rfl⟩
abbrev main_call3_call0_v32 : Ref sig .tc := ⟨.hbm, 789, rfl⟩
abbrev main_call3_call0_v33 : Ref sig .tc := ⟨.hbm, 790, rfl⟩
abbrev main_call3_v0 : Ref sig .tc := ⟨.hbm, 791, rfl⟩
abbrev main_call3_v1 : Ref sig .tc := ⟨.hbm, 792, rfl⟩
abbrev main_v18 : Ref sig .tc := ⟨.hbm, 793, rfl⟩
abbrev main_v19 : Ref sig .tc := ⟨.hbm, 794, rfl⟩
abbrev main_c_4 : Ref sig .tc := ⟨.hbm, 795, rfl⟩
abbrev main_call4_v0 : Ref sig .tc := ⟨.hbm, 796, rfl⟩
abbrev main_v20 : Ref sig .tc := ⟨.hbm, 797, rfl⟩
abbrev main_cst_5 : Ref sig .tc := ⟨.hbm, 798, rfl⟩
abbrev main_call5_cst : Ref sig .tc := ⟨.hbm, 799, rfl⟩
abbrev main_call5_cst_0 : Ref sig .tc := ⟨.hbm, 800, rfl⟩
abbrev main_call5_call0_v0 : Ref sig .tc := ⟨.hbm, 801, rfl⟩
abbrev main_call5_call0_v1 : Ref sig .tc := ⟨.hbm, 802, rfl⟩
abbrev main_call5_call0_v2 : Ref sig .tc := ⟨.hbm, 803, rfl⟩
abbrev main_call5_call0_v3 : Ref sig .tc := ⟨.hbm, 804, rfl⟩
abbrev main_call5_call0_v4 : Ref sig .tc := ⟨.hbm, 805, rfl⟩
abbrev main_call5_call0_v5 : Ref sig .tc := ⟨.hbm, 806, rfl⟩
abbrev main_call5_call0_v6 : Ref sig .tc := ⟨.hbm, 807, rfl⟩
abbrev main_call5_call0_v7 : Ref sig .tc := ⟨.hbm, 808, rfl⟩
abbrev main_call5_call0_v8 : Ref sig .tc := ⟨.hbm, 809, rfl⟩
abbrev main_call5_call0_v9 : Ref sig .tc := ⟨.hbm, 810, rfl⟩
abbrev main_call5_call0_c : Ref sig .tc := ⟨.hbm, 811, rfl⟩
abbrev main_call5_call0_v10 : Ref sig .tc := ⟨.hbm, 812, rfl⟩
abbrev main_call5_call0_v11 : Ref sig .tc := ⟨.hbm, 813, rfl⟩
abbrev main_call5_call0_c_0 : Ref sig .tc := ⟨.hbm, 814, rfl⟩
abbrev main_call5_call0_v12 : Ref sig .tc := ⟨.hbm, 815, rfl⟩
abbrev main_call5_call0_v13 : Ref sig .tc := ⟨.hbm, 816, rfl⟩
abbrev main_call5_call0_v14 : Ref sig .tc := ⟨.hbm, 817, rfl⟩
abbrev main_call5_call0_c_1 : Ref sig .tc := ⟨.hbm, 818, rfl⟩
abbrev main_call5_call0_v15 : Ref sig .tc := ⟨.hbm, 819, rfl⟩
abbrev main_call5_call0_v16 : Ref sig .tc := ⟨.hbm, 820, rfl⟩
abbrev main_call5_call0_v17 : Ref sig .tc := ⟨.hbm, 821, rfl⟩
abbrev main_call5_call0_v18 : Ref sig .tc := ⟨.hbm, 822, rfl⟩
abbrev main_call5_call0_call0_v0 : Ref sig .tc := ⟨.hbm, 823, rfl⟩
abbrev main_call5_call0_call0_c : Ref sig .tc := ⟨.hbm, 824, rfl⟩
abbrev main_call5_call0_call0_v1 : Ref sig .tc := ⟨.hbm, 825, rfl⟩
abbrev main_call5_call0_call0_v2 : Ref sig .tc := ⟨.hbm, 826, rfl⟩
abbrev main_call5_call0_call0_v3 : Ref sig .tc := ⟨.hbm, 827, rfl⟩
abbrev main_call5_call0_call0_v4 : Ref sig .tc := ⟨.hbm, 828, rfl⟩
abbrev main_call5_call0_call0_v5 : Ref sig .tc := ⟨.hbm, 829, rfl⟩
abbrev main_call5_call0_call0_v6 : Ref sig .tc := ⟨.hbm, 830, rfl⟩
abbrev main_call5_call0_call0_c_0 : Ref sig .tc := ⟨.hbm, 831, rfl⟩
abbrev main_call5_call0_call0_v7 : Ref sig .tc := ⟨.hbm, 832, rfl⟩
abbrev main_call5_call0_call0_v8 : Ref sig .tc := ⟨.hbm, 833, rfl⟩
abbrev main_call5_call0_call0_c_1 : Ref sig .tc := ⟨.hbm, 834, rfl⟩
abbrev main_call5_call0_call0_v9 : Ref sig .tc := ⟨.hbm, 835, rfl⟩
abbrev main_call5_call0_call0_v10 : Ref sig .tc := ⟨.hbm, 836, rfl⟩
abbrev main_call5_call0_call0_v11 : Ref sig .tc := ⟨.hbm, 837, rfl⟩
abbrev main_call5_call0_call0_v12 : Ref sig .tc := ⟨.hbm, 838, rfl⟩
abbrev main_call5_call0_call0_v13 : Ref sig .tc := ⟨.hbm, 839, rfl⟩
abbrev main_call5_call0_call0_c_2 : Ref sig .tc := ⟨.hbm, 840, rfl⟩
abbrev main_call5_call0_call0_v14 : Ref sig .tc := ⟨.hbm, 841, rfl⟩
abbrev main_call5_call0_call0_v15 : Ref sig .tc := ⟨.hbm, 842, rfl⟩
abbrev main_call5_call0_call0_c_3 : Ref sig .tc := ⟨.hbm, 843, rfl⟩
abbrev main_call5_call0_call0_v16 : Ref sig .tc := ⟨.hbm, 844, rfl⟩
abbrev main_call5_call0_call0_v17 : Ref sig .tc := ⟨.hbm, 845, rfl⟩
abbrev main_call5_call0_call0_v18 : Ref sig .tc := ⟨.hbm, 846, rfl⟩
abbrev main_call5_call0_call0_v19 : Ref sig .tc := ⟨.hbm, 847, rfl⟩
abbrev main_call5_call0_call0_v20 : Ref sig .tc := ⟨.hbm, 848, rfl⟩
abbrev main_call5_call0_call0_c_4 : Ref sig .tc := ⟨.hbm, 849, rfl⟩
abbrev main_call5_call0_call0_v21 : Ref sig .tc := ⟨.hbm, 850, rfl⟩
abbrev main_call5_call0_call0_v22 : Ref sig .tc := ⟨.hbm, 851, rfl⟩
abbrev main_call5_call0_call0_c_5 : Ref sig .tc := ⟨.hbm, 852, rfl⟩
abbrev main_call5_call0_call0_v23 : Ref sig .tc := ⟨.hbm, 853, rfl⟩
abbrev main_call5_call0_call0_v24 : Ref sig .tc := ⟨.hbm, 854, rfl⟩
abbrev main_call5_call0_call0_v25 : Ref sig .tc := ⟨.hbm, 855, rfl⟩
abbrev main_call5_call0_call0_v26 : Ref sig .tc := ⟨.hbm, 856, rfl⟩
abbrev main_call5_call0_call0_v27 : Ref sig .tc := ⟨.hbm, 857, rfl⟩
abbrev main_call5_call0_call0_c_6 : Ref sig .tc := ⟨.hbm, 858, rfl⟩
abbrev main_call5_call0_call0_v28 : Ref sig .tc := ⟨.hbm, 859, rfl⟩
abbrev main_call5_call0_call0_v29 : Ref sig .tc := ⟨.hbm, 860, rfl⟩
abbrev main_call5_call0_call0_c_7 : Ref sig .tc := ⟨.hbm, 861, rfl⟩
abbrev main_call5_call0_call0_v30 : Ref sig .tc := ⟨.hbm, 862, rfl⟩
abbrev main_call5_call0_call0_v31 : Ref sig .tc := ⟨.hbm, 863, rfl⟩
abbrev main_call5_call0_call0_v32 : Ref sig .tc := ⟨.hbm, 864, rfl⟩
abbrev main_call5_call0_call0_v33 : Ref sig .tc := ⟨.hbm, 865, rfl⟩
abbrev main_call5_call0_call0_v34 : Ref sig .tc := ⟨.hbm, 866, rfl⟩
abbrev main_call5_call0_call0_v35 : Ref sig .tc := ⟨.hbm, 867, rfl⟩
abbrev main_call5_call0_call0_v36 : Ref sig .tc := ⟨.hbm, 868, rfl⟩
abbrev main_call5_call0_call0_v37 : Ref sig .tc := ⟨.hbm, 869, rfl⟩
abbrev main_call5_call0_call0_c_8 : Ref sig .tc := ⟨.hbm, 870, rfl⟩
abbrev main_call5_call0_call0_v38 : Ref sig .tc := ⟨.hbm, 871, rfl⟩
abbrev main_call5_call0_call0_v39 : Ref sig .tc := ⟨.hbm, 872, rfl⟩
abbrev main_call5_call0_call0_v40 : Ref sig .tc := ⟨.hbm, 873, rfl⟩
abbrev main_call5_call0_call0_c_9 : Ref sig .tc := ⟨.hbm, 874, rfl⟩
abbrev main_call5_call0_call0_v41 : Ref sig .tc := ⟨.hbm, 875, rfl⟩
abbrev main_call5_call0_call0_v42 : Ref sig .tc := ⟨.hbm, 876, rfl⟩
abbrev main_call5_call0_call0_c_10 : Ref sig .tc := ⟨.hbm, 877, rfl⟩
abbrev main_call5_call0_call0_v43 : Ref sig .tc := ⟨.hbm, 878, rfl⟩
abbrev main_call5_call0_call0_v44 : Ref sig .tc := ⟨.hbm, 879, rfl⟩
abbrev main_call5_call0_call0_v45 : Ref sig .tc := ⟨.hbm, 880, rfl⟩
abbrev main_call5_call0_call0_v46 : Ref sig .tc := ⟨.hbm, 881, rfl⟩
abbrev main_call5_call0_call0_v47 : Ref sig .tc := ⟨.hbm, 882, rfl⟩
abbrev main_call5_call0_call0_c_11 : Ref sig .tc := ⟨.hbm, 883, rfl⟩
abbrev main_call5_call0_call0_v48 : Ref sig .tc := ⟨.hbm, 884, rfl⟩
abbrev main_call5_call0_call0_v49 : Ref sig .tc := ⟨.hbm, 885, rfl⟩
abbrev main_call5_call0_call0_c_12 : Ref sig .tc := ⟨.hbm, 886, rfl⟩
abbrev main_call5_call0_call0_v50 : Ref sig .tc := ⟨.hbm, 887, rfl⟩
abbrev main_call5_call0_call0_v51 : Ref sig .tc := ⟨.hbm, 888, rfl⟩
abbrev main_call5_call0_call0_v52 : Ref sig .tc := ⟨.hbm, 889, rfl⟩
abbrev main_call5_call0_call0_v53 : Ref sig .tc := ⟨.hbm, 890, rfl⟩
abbrev main_call5_call0_call0_v54 : Ref sig .tc := ⟨.hbm, 891, rfl⟩
abbrev main_call5_call0_call0_c_13 : Ref sig .tc := ⟨.hbm, 892, rfl⟩
abbrev main_call5_call0_call0_v55 : Ref sig .tc := ⟨.hbm, 893, rfl⟩
abbrev main_call5_call0_call0_v56 : Ref sig .tc := ⟨.hbm, 894, rfl⟩
abbrev main_call5_call0_call0_c_14 : Ref sig .tc := ⟨.hbm, 895, rfl⟩
abbrev main_call5_call0_call0_v57 : Ref sig .tc := ⟨.hbm, 896, rfl⟩
abbrev main_call5_call0_call0_v58 : Ref sig .tc := ⟨.hbm, 897, rfl⟩
abbrev main_call5_call0_call0_v59 : Ref sig .tc := ⟨.hbm, 898, rfl⟩
abbrev main_call5_call0_call0_v60 : Ref sig .tc := ⟨.hbm, 899, rfl⟩
abbrev main_call5_call0_call0_v61 : Ref sig .tc := ⟨.hbm, 900, rfl⟩
abbrev main_call5_call0_call0_c_15 : Ref sig .tc := ⟨.hbm, 901, rfl⟩
abbrev main_call5_call0_call0_v62 : Ref sig .tc := ⟨.hbm, 902, rfl⟩
abbrev main_call5_call0_call0_v63 : Ref sig .tc := ⟨.hbm, 903, rfl⟩
abbrev main_call5_call0_call0_c_16 : Ref sig .tc := ⟨.hbm, 904, rfl⟩
abbrev main_call5_call0_call0_v64 : Ref sig .tc := ⟨.hbm, 905, rfl⟩
abbrev main_call5_call0_call0_v65 : Ref sig .tc := ⟨.hbm, 906, rfl⟩
abbrev main_call5_call0_call0_v66 : Ref sig .tc := ⟨.hbm, 907, rfl⟩
abbrev main_call5_call0_call0_v67 : Ref sig .tc := ⟨.hbm, 908, rfl⟩
abbrev main_call5_call0_call0_v68 : Ref sig .tc := ⟨.hbm, 909, rfl⟩
abbrev main_call5_call0_call0_v69 : Ref sig .tc := ⟨.hbm, 910, rfl⟩
abbrev main_call5_call0_call0_v70 : Ref sig .tc := ⟨.hbm, 911, rfl⟩
abbrev main_call5_call0_call0_v71 : Ref sig .tc := ⟨.hbm, 912, rfl⟩
abbrev main_call5_call0_call0_c_17 : Ref sig .tc := ⟨.hbm, 913, rfl⟩
abbrev main_call5_call0_call0_v72 : Ref sig .tc := ⟨.hbm, 914, rfl⟩
abbrev main_call5_call0_call0_v73 : Ref sig .tc := ⟨.hbm, 915, rfl⟩
abbrev main_call5_call0_call0_v74 : Ref sig .tc := ⟨.hbm, 916, rfl⟩
abbrev main_call5_call0_call0_c_18 : Ref sig .tc := ⟨.hbm, 917, rfl⟩
abbrev main_call5_call0_call0_v75 : Ref sig .tc := ⟨.hbm, 918, rfl⟩
abbrev main_call5_call0_call0_v76 : Ref sig .tc := ⟨.hbm, 919, rfl⟩
abbrev main_call5_call0_call0_c_19 : Ref sig .tc := ⟨.hbm, 920, rfl⟩
abbrev main_call5_call0_call0_v77 : Ref sig .tc := ⟨.hbm, 921, rfl⟩
abbrev main_call5_call0_call0_v78 : Ref sig .tc := ⟨.hbm, 922, rfl⟩
abbrev main_call5_call0_call0_v79 : Ref sig .tc := ⟨.hbm, 923, rfl⟩
abbrev main_call5_call0_call0_v80 : Ref sig .tc := ⟨.hbm, 924, rfl⟩
abbrev main_call5_call0_call0_v81 : Ref sig .tc := ⟨.hbm, 925, rfl⟩
abbrev main_call5_call0_call0_c_20 : Ref sig .tc := ⟨.hbm, 926, rfl⟩
abbrev main_call5_call0_call0_v82 : Ref sig .tc := ⟨.hbm, 927, rfl⟩
abbrev main_call5_call0_call0_v83 : Ref sig .tc := ⟨.hbm, 928, rfl⟩
abbrev main_call5_call0_call0_c_21 : Ref sig .tc := ⟨.hbm, 929, rfl⟩
abbrev main_call5_call0_call0_v84 : Ref sig .tc := ⟨.hbm, 930, rfl⟩
abbrev main_call5_call0_call0_v85 : Ref sig .tc := ⟨.hbm, 931, rfl⟩
abbrev main_call5_call0_call0_v86 : Ref sig .tc := ⟨.hbm, 932, rfl⟩
abbrev main_call5_call0_call0_v87 : Ref sig .tc := ⟨.hbm, 933, rfl⟩
abbrev main_call5_call0_call0_v88 : Ref sig .tc := ⟨.hbm, 934, rfl⟩
abbrev main_call5_call0_call0_c_22 : Ref sig .tc := ⟨.hbm, 935, rfl⟩
abbrev main_call5_call0_call0_v89 : Ref sig .tc := ⟨.hbm, 936, rfl⟩
abbrev main_call5_call0_call0_v90 : Ref sig .tc := ⟨.hbm, 937, rfl⟩
abbrev main_call5_call0_call0_c_23 : Ref sig .tc := ⟨.hbm, 938, rfl⟩
abbrev main_call5_call0_call0_v91 : Ref sig .tc := ⟨.hbm, 939, rfl⟩
abbrev main_call5_call0_call0_v92 : Ref sig .tc := ⟨.hbm, 940, rfl⟩
abbrev main_call5_call0_call0_v93 : Ref sig .tc := ⟨.hbm, 941, rfl⟩
abbrev main_call5_call0_call0_v94 : Ref sig .tc := ⟨.hbm, 942, rfl⟩
abbrev main_call5_call0_call0_v95 : Ref sig .tc := ⟨.hbm, 943, rfl⟩
abbrev main_call5_call0_call0_c_24 : Ref sig .tc := ⟨.hbm, 944, rfl⟩
abbrev main_call5_call0_call0_v96 : Ref sig .tc := ⟨.hbm, 945, rfl⟩
abbrev main_call5_call0_call0_v97 : Ref sig .tc := ⟨.hbm, 946, rfl⟩
abbrev main_call5_call0_call0_c_25 : Ref sig .tc := ⟨.hbm, 947, rfl⟩
abbrev main_call5_call0_call0_v98 : Ref sig .tc := ⟨.hbm, 948, rfl⟩
abbrev main_call5_call0_call0_v99 : Ref sig .tc := ⟨.hbm, 949, rfl⟩
abbrev main_call5_call0_call0_v100 : Ref sig .tc := ⟨.hbm, 950, rfl⟩
abbrev main_call5_call0_call0_v101 : Ref sig .tc := ⟨.hbm, 951, rfl⟩
abbrev main_call5_call0_call0_v102 : Ref sig .tc := ⟨.hbm, 952, rfl⟩
abbrev main_call5_call0_call0_v103 : Ref sig .tc := ⟨.hbm, 953, rfl⟩
abbrev main_call5_call0_call0_v104 : Ref sig .tc := ⟨.hbm, 954, rfl⟩
abbrev main_call5_call0_call0_v105 : Ref sig .tc := ⟨.hbm, 955, rfl⟩
abbrev main_call5_call0_call0_c_26 : Ref sig .tc := ⟨.hbm, 956, rfl⟩
abbrev main_call5_call0_call0_v106 : Ref sig .tc := ⟨.hbm, 957, rfl⟩
abbrev main_call5_call0_call0_v107 : Ref sig .tc := ⟨.hbm, 958, rfl⟩
abbrev main_call5_call0_call0_v108 : Ref sig .tc := ⟨.hbm, 959, rfl⟩
abbrev main_call5_call0_call0_c_27 : Ref sig .tc := ⟨.hbm, 960, rfl⟩
abbrev main_call5_call0_call0_v109 : Ref sig .tc := ⟨.hbm, 961, rfl⟩
abbrev main_call5_call0_call0_v110 : Ref sig .tc := ⟨.hbm, 962, rfl⟩
abbrev main_call5_call0_call0_c_28 : Ref sig .tc := ⟨.hbm, 963, rfl⟩
abbrev main_call5_call0_call0_v111 : Ref sig .tc := ⟨.hbm, 964, rfl⟩
abbrev main_call5_call0_call0_v112 : Ref sig .tc := ⟨.hbm, 965, rfl⟩
abbrev main_call5_call0_call0_v113 : Ref sig .tc := ⟨.hbm, 966, rfl⟩
abbrev main_call5_call0_call0_v114 : Ref sig .tc := ⟨.hbm, 967, rfl⟩
abbrev main_call5_call0_call0_v115 : Ref sig .tc := ⟨.hbm, 968, rfl⟩
abbrev main_call5_call0_call0_c_29 : Ref sig .tc := ⟨.hbm, 969, rfl⟩
abbrev main_call5_call0_call0_v116 : Ref sig .tc := ⟨.hbm, 970, rfl⟩
abbrev main_call5_call0_call0_v117 : Ref sig .tc := ⟨.hbm, 971, rfl⟩
abbrev main_call5_call0_call0_c_30 : Ref sig .tc := ⟨.hbm, 972, rfl⟩
abbrev main_call5_call0_call0_v118 : Ref sig .tc := ⟨.hbm, 973, rfl⟩
abbrev main_call5_call0_call0_v119 : Ref sig .tc := ⟨.hbm, 974, rfl⟩
abbrev main_call5_call0_call0_v120 : Ref sig .tc := ⟨.hbm, 975, rfl⟩
abbrev main_call5_call0_call0_v121 : Ref sig .tc := ⟨.hbm, 976, rfl⟩
abbrev main_call5_call0_call0_v122 : Ref sig .tc := ⟨.hbm, 977, rfl⟩
abbrev main_call5_call0_call0_c_31 : Ref sig .tc := ⟨.hbm, 978, rfl⟩
abbrev main_call5_call0_call0_v123 : Ref sig .tc := ⟨.hbm, 979, rfl⟩
abbrev main_call5_call0_call0_v124 : Ref sig .tc := ⟨.hbm, 980, rfl⟩
abbrev main_call5_call0_call0_c_32 : Ref sig .tc := ⟨.hbm, 981, rfl⟩
abbrev main_call5_call0_call0_v125 : Ref sig .tc := ⟨.hbm, 982, rfl⟩
abbrev main_call5_call0_call0_v126 : Ref sig .tc := ⟨.hbm, 983, rfl⟩
abbrev main_call5_call0_call0_v127 : Ref sig .tc := ⟨.hbm, 984, rfl⟩
abbrev main_call5_call0_call0_v128 : Ref sig .tc := ⟨.hbm, 985, rfl⟩
abbrev main_call5_call0_call0_v129 : Ref sig .tc := ⟨.hbm, 986, rfl⟩
abbrev main_call5_call0_call0_c_33 : Ref sig .tc := ⟨.hbm, 987, rfl⟩
abbrev main_call5_call0_call0_v130 : Ref sig .tc := ⟨.hbm, 988, rfl⟩
abbrev main_call5_call0_call0_v131 : Ref sig .tc := ⟨.hbm, 989, rfl⟩
abbrev main_call5_call0_call0_c_34 : Ref sig .tc := ⟨.hbm, 990, rfl⟩
abbrev main_call5_call0_call0_v132 : Ref sig .tc := ⟨.hbm, 991, rfl⟩
abbrev main_call5_call0_call0_v133 : Ref sig .tc := ⟨.hbm, 992, rfl⟩
abbrev main_call5_call0_call0_v134 : Ref sig .tc := ⟨.hbm, 993, rfl⟩
abbrev main_call5_call0_call0_v135 : Ref sig .tc := ⟨.hbm, 994, rfl⟩
abbrev main_call5_call0_call0_v136 : Ref sig .tc := ⟨.hbm, 995, rfl⟩
abbrev main_call5_call0_call0_v137 : Ref sig .tc := ⟨.hbm, 996, rfl⟩
abbrev main_call5_call0_call0_v138 : Ref sig .tc := ⟨.hbm, 997, rfl⟩
abbrev main_call5_call0_call0_v139 : Ref sig .tc := ⟨.hbm, 998, rfl⟩
abbrev main_call5_call0_call0_c_35 : Ref sig .tc := ⟨.hbm, 999, rfl⟩
abbrev main_call5_call0_call0_v140 : Ref sig .tc := ⟨.hbm, 1000, rfl⟩
abbrev main_call5_call0_call0_v141 : Ref sig .tc := ⟨.hbm, 1001, rfl⟩
abbrev main_call5_call0_call0_v142 : Ref sig .tc := ⟨.hbm, 1002, rfl⟩
abbrev main_call5_call0_call0_c_36 : Ref sig .tc := ⟨.hbm, 1003, rfl⟩
abbrev main_call5_call0_call0_v143 : Ref sig .tc := ⟨.hbm, 1004, rfl⟩
abbrev main_call5_call0_call0_v144 : Ref sig .tc := ⟨.hbm, 1005, rfl⟩
abbrev main_call5_call0_call0_c_37 : Ref sig .tc := ⟨.hbm, 1006, rfl⟩
abbrev main_call5_call0_call0_v145 : Ref sig .tc := ⟨.hbm, 1007, rfl⟩
abbrev main_call5_call0_call0_v146 : Ref sig .tc := ⟨.hbm, 1008, rfl⟩
abbrev main_call5_call0_call0_v147 : Ref sig .tc := ⟨.hbm, 1009, rfl⟩
abbrev main_call5_call0_call0_v148 : Ref sig .tc := ⟨.hbm, 1010, rfl⟩
abbrev main_call5_call0_call0_v149 : Ref sig .tc := ⟨.hbm, 1011, rfl⟩
abbrev main_call5_call0_call0_c_38 : Ref sig .tc := ⟨.hbm, 1012, rfl⟩
abbrev main_call5_call0_call0_v150 : Ref sig .tc := ⟨.hbm, 1013, rfl⟩
abbrev main_call5_call0_call0_v151 : Ref sig .tc := ⟨.hbm, 1014, rfl⟩
abbrev main_call5_call0_call0_c_39 : Ref sig .tc := ⟨.hbm, 1015, rfl⟩
abbrev main_call5_call0_call0_v152 : Ref sig .tc := ⟨.hbm, 1016, rfl⟩
abbrev main_call5_call0_call0_v153 : Ref sig .tc := ⟨.hbm, 1017, rfl⟩
abbrev main_call5_call0_call0_v154 : Ref sig .tc := ⟨.hbm, 1018, rfl⟩
abbrev main_call5_call0_call0_v155 : Ref sig .tc := ⟨.hbm, 1019, rfl⟩
abbrev main_call5_call0_call0_v156 : Ref sig .tc := ⟨.hbm, 1020, rfl⟩
abbrev main_call5_call0_call0_c_40 : Ref sig .tc := ⟨.hbm, 1021, rfl⟩
abbrev main_call5_call0_call0_v157 : Ref sig .tc := ⟨.hbm, 1022, rfl⟩
abbrev main_call5_call0_call0_v158 : Ref sig .tc := ⟨.hbm, 1023, rfl⟩
abbrev main_call5_call0_call0_c_41 : Ref sig .tc := ⟨.hbm, 1024, rfl⟩
abbrev main_call5_call0_call0_v159 : Ref sig .tc := ⟨.hbm, 1025, rfl⟩
abbrev main_call5_call0_call0_v160 : Ref sig .tc := ⟨.hbm, 1026, rfl⟩
abbrev main_call5_call0_call0_v161 : Ref sig .tc := ⟨.hbm, 1027, rfl⟩
abbrev main_call5_call0_call0_v162 : Ref sig .tc := ⟨.hbm, 1028, rfl⟩
abbrev main_call5_call0_call0_v163 : Ref sig .tc := ⟨.hbm, 1029, rfl⟩
abbrev main_call5_call0_call0_c_42 : Ref sig .tc := ⟨.hbm, 1030, rfl⟩
abbrev main_call5_call0_call0_v164 : Ref sig .tc := ⟨.hbm, 1031, rfl⟩
abbrev main_call5_call0_call0_v165 : Ref sig .tc := ⟨.hbm, 1032, rfl⟩
abbrev main_call5_call0_call0_c_43 : Ref sig .tc := ⟨.hbm, 1033, rfl⟩
abbrev main_call5_call0_call0_v166 : Ref sig .tc := ⟨.hbm, 1034, rfl⟩
abbrev main_call5_call0_call0_v167 : Ref sig .tc := ⟨.hbm, 1035, rfl⟩
abbrev main_call5_call0_call0_v168 : Ref sig .tc := ⟨.hbm, 1036, rfl⟩
abbrev main_call5_call0_call0_v169 : Ref sig .tc := ⟨.hbm, 1037, rfl⟩
abbrev main_call5_call0_call0_v170 : Ref sig .tc := ⟨.hbm, 1038, rfl⟩
abbrev main_call5_call0_v19_0 : Ref sig .tc := ⟨.hbm, 1039, rfl⟩
abbrev main_call5_call0_call0_v172 : Ref sig .tc := ⟨.hbm, 1040, rfl⟩
abbrev main_call5_call0_call0_v173 : Ref sig .tc := ⟨.hbm, 1041, rfl⟩
abbrev main_call5_call0_call0_c_44 : Ref sig .tc := ⟨.hbm, 1042, rfl⟩
abbrev main_call5_call0_call0_v174 : Ref sig .tc := ⟨.hbm, 1043, rfl⟩
abbrev main_call5_call0_v19_1 : Ref sig .tc := ⟨.hbm, 1044, rfl⟩
abbrev main_call5_call0_v20 : Ref sig .tc := ⟨.hbm, 1045, rfl⟩
abbrev main_call5_call0_c_2 : Ref sig .tc := ⟨.hbm, 1046, rfl⟩
abbrev main_call5_call0_v21 : Ref sig .tc := ⟨.hbm, 1047, rfl⟩
abbrev main_call5_call0_v22 : Ref sig .tc := ⟨.hbm, 1048, rfl⟩
abbrev main_call5_call0_c_3 : Ref sig .tc := ⟨.hbm, 1049, rfl⟩
abbrev main_call5_call0_v23 : Ref sig .tc := ⟨.hbm, 1050, rfl⟩
abbrev main_call5_call0_v24 : Ref sig .tc := ⟨.hbm, 1051, rfl⟩
abbrev main_call5_call0_v25 : Ref sig .tc := ⟨.hbm, 1052, rfl⟩
abbrev main_call5_call0_cst : Ref sig .tc := ⟨.hbm, 1053, rfl⟩
abbrev main_call5_call0_v26 : Ref sig .tc := ⟨.hbm, 1054, rfl⟩
abbrev main_call5_call0_v27 : Ref sig .tc := ⟨.hbm, 1055, rfl⟩
abbrev main_call5_call0_v28 : Ref sig .tc := ⟨.hbm, 1056, rfl⟩
abbrev main_call5_call0_v29 : Ref sig .tc := ⟨.hbm, 1057, rfl⟩
abbrev main_call5_call0_v30 : Ref sig .tc := ⟨.hbm, 1058, rfl⟩
abbrev main_call5_call0_v31 : Ref sig .tc := ⟨.hbm, 1059, rfl⟩
abbrev main_call5_call0_v32 : Ref sig .tc := ⟨.hbm, 1060, rfl⟩
abbrev main_call5_call0_v33 : Ref sig .tc := ⟨.hbm, 1061, rfl⟩
abbrev main_call5_v0 : Ref sig .tc := ⟨.hbm, 1062, rfl⟩
abbrev main_call5_v1 : Ref sig .tc := ⟨.hbm, 1063, rfl⟩
abbrev main_v21 : Ref sig .tc := ⟨.hbm, 1064, rfl⟩
abbrev main_v22 : Ref sig .tc := ⟨.hbm, 1065, rfl⟩
abbrev main_v23 : Ref sig .tc := ⟨.hbm, 1066, rfl⟩
abbrev main_v24 : Ref sig .tc := ⟨.hbm, 1067, rfl⟩
abbrev main_c_6 : Ref sig .tc := ⟨.hbm, 1068, rfl⟩
abbrev main_c_7 : Ref sig .tc := ⟨.hbm, 1069, rfl⟩
abbrev main_call6_c : Ref sig .tc := ⟨.hbm, 1070, rfl⟩
abbrev main_call6_c_0 : Ref sig .tc := ⟨.hbm, 1071, rfl⟩
abbrev main_call6_c_1 : Ref sig .tc := ⟨.hbm, 1072, rfl⟩
abbrev main_call6_call0_v0 : Ref sig .tc := ⟨.hbm, 1073, rfl⟩
abbrev main_call6_v0 : Ref sig .tc := ⟨.hbm, 1074, rfl⟩
abbrev main_call6_v1 : Ref sig .tc := ⟨.hbm, 1075, rfl⟩
abbrev main_call6_c_2 : Ref sig .tc := ⟨.hbm, 1076, rfl⟩
abbrev main_call6_c_3 : Ref sig .tc := ⟨.hbm, 1077, rfl⟩
abbrev main_call6_call1_v0 : Ref sig .tc := ⟨.hbm, 1078, rfl⟩
abbrev main_call6_v2 : Ref sig .tc := ⟨.hbm, 1079, rfl⟩
abbrev main_call6_v3 : Ref sig .tc := ⟨.hbm, 1080, rfl⟩
abbrev main_call6_c_4 : Ref sig .tc := ⟨.hbm, 1081, rfl⟩
abbrev main_call6_c_5 : Ref sig .tc := ⟨.hbm, 1082, rfl⟩
abbrev main_call6_call2_v0 : Ref sig .tc := ⟨.hbm, 1083, rfl⟩
abbrev main_call6_v4 : Ref sig .tc := ⟨.hbm, 1084, rfl⟩
abbrev main_call6_v5 : Ref sig .tc := ⟨.hbm, 1085, rfl⟩
abbrev main_call6_v6 : Ref sig .tc := ⟨.hbm, 1086, rfl⟩
abbrev main_call6_v7 : Ref sig .tc := ⟨.hbm, 1087, rfl⟩
abbrev main_call6_call3_v0 : Ref sig .tc := ⟨.hbm, 1088, rfl⟩
abbrev main_call6_call3_v1 : Ref sig .tc := ⟨.hbm, 1089, rfl⟩
abbrev main_call6_call3_v2 : Ref sig .tc := ⟨.hbm, 1090, rfl⟩
abbrev main_call6_call3_v3 : Ref sig .tc := ⟨.hbm, 1091, rfl⟩
abbrev main_call6_call3_v4 : Ref sig .tc := ⟨.hbm, 1092, rfl⟩
abbrev main_call6_call3_c : Ref sig .tc := ⟨.hbm, 1093, rfl⟩
abbrev main_call6_call3_v5 : Ref sig .tc := ⟨.hbm, 1094, rfl⟩
abbrev main_call6_call3_v6 : Ref sig .tc := ⟨.hbm, 1095, rfl⟩
abbrev main_call6_call3_c_0 : Ref sig .tc := ⟨.hbm, 1096, rfl⟩
abbrev main_call6_call3_v7 : Ref sig .tc := ⟨.hbm, 1097, rfl⟩
abbrev main_call6_call3_v8 : Ref sig .tc := ⟨.hbm, 1098, rfl⟩
abbrev main_call6_call3_v9 : Ref sig .tc := ⟨.hbm, 1099, rfl⟩
abbrev main_call6_call3_v10 : Ref sig .tc := ⟨.hbm, 1100, rfl⟩
abbrev main_call6_call3_call0_v0 : Ref sig .tc := ⟨.hbm, 1101, rfl⟩
abbrev main_call6_call3_call0_c : Ref sig .tc := ⟨.hbm, 1102, rfl⟩
abbrev main_call6_call3_call0_v1 : Ref sig .tc := ⟨.hbm, 1103, rfl⟩
abbrev main_call6_call3_call0_v2 : Ref sig .tc := ⟨.hbm, 1104, rfl⟩
abbrev main_call6_call3_call0_v3 : Ref sig .tc := ⟨.hbm, 1105, rfl⟩
abbrev main_call6_call3_call0_v4 : Ref sig .tc := ⟨.hbm, 1106, rfl⟩
abbrev main_call6_call3_call0_v5 : Ref sig .tc := ⟨.hbm, 1107, rfl⟩
abbrev main_call6_call3_call0_v6 : Ref sig .tc := ⟨.hbm, 1108, rfl⟩
abbrev main_call6_call3_call0_c_0 : Ref sig .tc := ⟨.hbm, 1109, rfl⟩
abbrev main_call6_call3_call0_v7 : Ref sig .tc := ⟨.hbm, 1110, rfl⟩
abbrev main_call6_call3_call0_v8 : Ref sig .tc := ⟨.hbm, 1111, rfl⟩
abbrev main_call6_call3_call0_c_1 : Ref sig .tc := ⟨.hbm, 1112, rfl⟩
abbrev main_call6_call3_call0_v9 : Ref sig .tc := ⟨.hbm, 1113, rfl⟩
abbrev main_call6_call3_call0_v10 : Ref sig .tc := ⟨.hbm, 1114, rfl⟩
abbrev main_call6_call3_call0_v11 : Ref sig .tc := ⟨.hbm, 1115, rfl⟩
abbrev main_call6_call3_call0_v12 : Ref sig .tc := ⟨.hbm, 1116, rfl⟩
abbrev main_call6_call3_call0_v13 : Ref sig .tc := ⟨.hbm, 1117, rfl⟩
abbrev main_call6_call3_call0_c_2 : Ref sig .tc := ⟨.hbm, 1118, rfl⟩
abbrev main_call6_call3_call0_v14 : Ref sig .tc := ⟨.hbm, 1119, rfl⟩
abbrev main_call6_call3_call0_v15 : Ref sig .tc := ⟨.hbm, 1120, rfl⟩
abbrev main_call6_call3_call0_c_3 : Ref sig .tc := ⟨.hbm, 1121, rfl⟩
abbrev main_call6_call3_call0_v16 : Ref sig .tc := ⟨.hbm, 1122, rfl⟩
abbrev main_call6_call3_call0_v17 : Ref sig .tc := ⟨.hbm, 1123, rfl⟩
abbrev main_call6_call3_call0_v18 : Ref sig .tc := ⟨.hbm, 1124, rfl⟩
abbrev main_call6_call3_call0_v19 : Ref sig .tc := ⟨.hbm, 1125, rfl⟩
abbrev main_call6_call3_call0_v20 : Ref sig .tc := ⟨.hbm, 1126, rfl⟩
abbrev main_call6_call3_call0_c_4 : Ref sig .tc := ⟨.hbm, 1127, rfl⟩
abbrev main_call6_call3_call0_v21 : Ref sig .tc := ⟨.hbm, 1128, rfl⟩
abbrev main_call6_call3_call0_v22 : Ref sig .tc := ⟨.hbm, 1129, rfl⟩
abbrev main_call6_call3_call0_c_5 : Ref sig .tc := ⟨.hbm, 1130, rfl⟩
abbrev main_call6_call3_call0_v23 : Ref sig .tc := ⟨.hbm, 1131, rfl⟩
abbrev main_call6_call3_call0_v24 : Ref sig .tc := ⟨.hbm, 1132, rfl⟩
abbrev main_call6_call3_call0_v25 : Ref sig .tc := ⟨.hbm, 1133, rfl⟩
abbrev main_call6_call3_call0_v26 : Ref sig .tc := ⟨.hbm, 1134, rfl⟩
abbrev main_call6_call3_call0_v27 : Ref sig .tc := ⟨.hbm, 1135, rfl⟩
abbrev main_call6_call3_call0_c_6 : Ref sig .tc := ⟨.hbm, 1136, rfl⟩
abbrev main_call6_call3_call0_v28 : Ref sig .tc := ⟨.hbm, 1137, rfl⟩
abbrev main_call6_call3_call0_v29 : Ref sig .tc := ⟨.hbm, 1138, rfl⟩
abbrev main_call6_call3_call0_c_7 : Ref sig .tc := ⟨.hbm, 1139, rfl⟩
abbrev main_call6_call3_call0_v30 : Ref sig .tc := ⟨.hbm, 1140, rfl⟩
abbrev main_call6_call3_call0_v31 : Ref sig .tc := ⟨.hbm, 1141, rfl⟩
abbrev main_call6_call3_call0_v32 : Ref sig .tc := ⟨.hbm, 1142, rfl⟩
abbrev main_call6_call3_call0_v33 : Ref sig .tc := ⟨.hbm, 1143, rfl⟩
abbrev main_call6_call3_call0_v34 : Ref sig .tc := ⟨.hbm, 1144, rfl⟩
abbrev main_call6_call3_call0_v35 : Ref sig .tc := ⟨.hbm, 1145, rfl⟩
abbrev main_call6_call3_call0_v36 : Ref sig .tc := ⟨.hbm, 1146, rfl⟩
abbrev main_call6_call3_call0_v37 : Ref sig .tc := ⟨.hbm, 1147, rfl⟩
abbrev main_call6_call3_call0_c_8 : Ref sig .tc := ⟨.hbm, 1148, rfl⟩
abbrev main_call6_call3_call0_v38 : Ref sig .tc := ⟨.hbm, 1149, rfl⟩
abbrev main_call6_call3_call0_v39 : Ref sig .tc := ⟨.hbm, 1150, rfl⟩
abbrev main_call6_call3_call0_v40 : Ref sig .tc := ⟨.hbm, 1151, rfl⟩
abbrev main_call6_call3_call0_c_9 : Ref sig .tc := ⟨.hbm, 1152, rfl⟩
abbrev main_call6_call3_call0_v41 : Ref sig .tc := ⟨.hbm, 1153, rfl⟩
abbrev main_call6_call3_call0_v42 : Ref sig .tc := ⟨.hbm, 1154, rfl⟩
abbrev main_call6_call3_call0_c_10 : Ref sig .tc := ⟨.hbm, 1155, rfl⟩
abbrev main_call6_call3_call0_v43 : Ref sig .tc := ⟨.hbm, 1156, rfl⟩
abbrev main_call6_call3_call0_v44 : Ref sig .tc := ⟨.hbm, 1157, rfl⟩
abbrev main_call6_call3_call0_v45 : Ref sig .tc := ⟨.hbm, 1158, rfl⟩
abbrev main_call6_call3_call0_v46 : Ref sig .tc := ⟨.hbm, 1159, rfl⟩
abbrev main_call6_call3_call0_v47 : Ref sig .tc := ⟨.hbm, 1160, rfl⟩
abbrev main_call6_call3_call0_c_11 : Ref sig .tc := ⟨.hbm, 1161, rfl⟩
abbrev main_call6_call3_call0_v48 : Ref sig .tc := ⟨.hbm, 1162, rfl⟩
abbrev main_call6_call3_call0_v49 : Ref sig .tc := ⟨.hbm, 1163, rfl⟩
abbrev main_call6_call3_call0_c_12 : Ref sig .tc := ⟨.hbm, 1164, rfl⟩
abbrev main_call6_call3_call0_v50 : Ref sig .tc := ⟨.hbm, 1165, rfl⟩
abbrev main_call6_call3_call0_v51 : Ref sig .tc := ⟨.hbm, 1166, rfl⟩
abbrev main_call6_call3_call0_v52 : Ref sig .tc := ⟨.hbm, 1167, rfl⟩
abbrev main_call6_call3_call0_v53 : Ref sig .tc := ⟨.hbm, 1168, rfl⟩
abbrev main_call6_call3_call0_v54 : Ref sig .tc := ⟨.hbm, 1169, rfl⟩
abbrev main_call6_call3_call0_c_13 : Ref sig .tc := ⟨.hbm, 1170, rfl⟩
abbrev main_call6_call3_call0_v55 : Ref sig .tc := ⟨.hbm, 1171, rfl⟩
abbrev main_call6_call3_call0_v56 : Ref sig .tc := ⟨.hbm, 1172, rfl⟩
abbrev main_call6_call3_call0_c_14 : Ref sig .tc := ⟨.hbm, 1173, rfl⟩
abbrev main_call6_call3_call0_v57 : Ref sig .tc := ⟨.hbm, 1174, rfl⟩
abbrev main_call6_call3_call0_v58 : Ref sig .tc := ⟨.hbm, 1175, rfl⟩
abbrev main_call6_call3_call0_v59 : Ref sig .tc := ⟨.hbm, 1176, rfl⟩
abbrev main_call6_call3_call0_v60 : Ref sig .tc := ⟨.hbm, 1177, rfl⟩
abbrev main_call6_call3_call0_v61 : Ref sig .tc := ⟨.hbm, 1178, rfl⟩
abbrev main_call6_call3_call0_c_15 : Ref sig .tc := ⟨.hbm, 1179, rfl⟩
abbrev main_call6_call3_call0_v62 : Ref sig .tc := ⟨.hbm, 1180, rfl⟩
abbrev main_call6_call3_call0_v63 : Ref sig .tc := ⟨.hbm, 1181, rfl⟩
abbrev main_call6_call3_call0_c_16 : Ref sig .tc := ⟨.hbm, 1182, rfl⟩
abbrev main_call6_call3_call0_v64 : Ref sig .tc := ⟨.hbm, 1183, rfl⟩
abbrev main_call6_call3_call0_v65 : Ref sig .tc := ⟨.hbm, 1184, rfl⟩
abbrev main_call6_call3_call0_v66 : Ref sig .tc := ⟨.hbm, 1185, rfl⟩
abbrev main_call6_call3_call0_v67 : Ref sig .tc := ⟨.hbm, 1186, rfl⟩
abbrev main_call6_call3_call0_v68 : Ref sig .tc := ⟨.hbm, 1187, rfl⟩
abbrev main_call6_call3_call0_v69 : Ref sig .tc := ⟨.hbm, 1188, rfl⟩
abbrev main_call6_call3_call0_v70 : Ref sig .tc := ⟨.hbm, 1189, rfl⟩
abbrev main_call6_call3_call0_v71 : Ref sig .tc := ⟨.hbm, 1190, rfl⟩
abbrev main_call6_call3_call0_c_17 : Ref sig .tc := ⟨.hbm, 1191, rfl⟩
abbrev main_call6_call3_call0_v72 : Ref sig .tc := ⟨.hbm, 1192, rfl⟩
abbrev main_call6_call3_call0_v73 : Ref sig .tc := ⟨.hbm, 1193, rfl⟩
abbrev main_call6_call3_call0_v74 : Ref sig .tc := ⟨.hbm, 1194, rfl⟩
abbrev main_call6_call3_call0_c_18 : Ref sig .tc := ⟨.hbm, 1195, rfl⟩
abbrev main_call6_call3_call0_v75 : Ref sig .tc := ⟨.hbm, 1196, rfl⟩
abbrev main_call6_call3_call0_v76 : Ref sig .tc := ⟨.hbm, 1197, rfl⟩
abbrev main_call6_call3_call0_c_19 : Ref sig .tc := ⟨.hbm, 1198, rfl⟩
abbrev main_call6_call3_call0_v77 : Ref sig .tc := ⟨.hbm, 1199, rfl⟩
abbrev main_call6_call3_call0_v78 : Ref sig .tc := ⟨.hbm, 1200, rfl⟩
abbrev main_call6_call3_call0_v79 : Ref sig .tc := ⟨.hbm, 1201, rfl⟩
abbrev main_call6_call3_call0_v80 : Ref sig .tc := ⟨.hbm, 1202, rfl⟩
abbrev main_call6_call3_call0_v81 : Ref sig .tc := ⟨.hbm, 1203, rfl⟩
abbrev main_call6_call3_call0_c_20 : Ref sig .tc := ⟨.hbm, 1204, rfl⟩
abbrev main_call6_call3_call0_v82 : Ref sig .tc := ⟨.hbm, 1205, rfl⟩
abbrev main_call6_call3_call0_v83 : Ref sig .tc := ⟨.hbm, 1206, rfl⟩
abbrev main_call6_call3_call0_c_21 : Ref sig .tc := ⟨.hbm, 1207, rfl⟩
abbrev main_call6_call3_call0_v84 : Ref sig .tc := ⟨.hbm, 1208, rfl⟩
abbrev main_call6_call3_call0_v85 : Ref sig .tc := ⟨.hbm, 1209, rfl⟩
abbrev main_call6_call3_call0_v86 : Ref sig .tc := ⟨.hbm, 1210, rfl⟩
abbrev main_call6_call3_call0_v87 : Ref sig .tc := ⟨.hbm, 1211, rfl⟩
abbrev main_call6_call3_call0_v88 : Ref sig .tc := ⟨.hbm, 1212, rfl⟩
abbrev main_call6_call3_call0_c_22 : Ref sig .tc := ⟨.hbm, 1213, rfl⟩
abbrev main_call6_call3_call0_v89 : Ref sig .tc := ⟨.hbm, 1214, rfl⟩
abbrev main_call6_call3_call0_v90 : Ref sig .tc := ⟨.hbm, 1215, rfl⟩
abbrev main_call6_call3_call0_c_23 : Ref sig .tc := ⟨.hbm, 1216, rfl⟩
abbrev main_call6_call3_call0_v91 : Ref sig .tc := ⟨.hbm, 1217, rfl⟩
abbrev main_call6_call3_call0_v92 : Ref sig .tc := ⟨.hbm, 1218, rfl⟩
abbrev main_call6_call3_call0_v93 : Ref sig .tc := ⟨.hbm, 1219, rfl⟩
abbrev main_call6_call3_call0_v94 : Ref sig .tc := ⟨.hbm, 1220, rfl⟩
abbrev main_call6_call3_call0_v95 : Ref sig .tc := ⟨.hbm, 1221, rfl⟩
abbrev main_call6_call3_call0_c_24 : Ref sig .tc := ⟨.hbm, 1222, rfl⟩
abbrev main_call6_call3_call0_v96 : Ref sig .tc := ⟨.hbm, 1223, rfl⟩
abbrev main_call6_call3_call0_v97 : Ref sig .tc := ⟨.hbm, 1224, rfl⟩
abbrev main_call6_call3_call0_c_25 : Ref sig .tc := ⟨.hbm, 1225, rfl⟩
abbrev main_call6_call3_call0_v98 : Ref sig .tc := ⟨.hbm, 1226, rfl⟩
abbrev main_call6_call3_call0_v99 : Ref sig .tc := ⟨.hbm, 1227, rfl⟩
abbrev main_call6_call3_call0_v100 : Ref sig .tc := ⟨.hbm, 1228, rfl⟩
abbrev main_call6_call3_call0_v101 : Ref sig .tc := ⟨.hbm, 1229, rfl⟩
abbrev main_call6_call3_call0_v102 : Ref sig .tc := ⟨.hbm, 1230, rfl⟩
abbrev main_call6_call3_call0_v103 : Ref sig .tc := ⟨.hbm, 1231, rfl⟩
abbrev main_call6_call3_call0_v104 : Ref sig .tc := ⟨.hbm, 1232, rfl⟩
abbrev main_call6_call3_call0_v105 : Ref sig .tc := ⟨.hbm, 1233, rfl⟩
abbrev main_call6_call3_call0_c_26 : Ref sig .tc := ⟨.hbm, 1234, rfl⟩
abbrev main_call6_call3_call0_v106 : Ref sig .tc := ⟨.hbm, 1235, rfl⟩
abbrev main_call6_call3_call0_v107 : Ref sig .tc := ⟨.hbm, 1236, rfl⟩
abbrev main_call6_call3_call0_v108 : Ref sig .tc := ⟨.hbm, 1237, rfl⟩
abbrev main_call6_call3_call0_c_27 : Ref sig .tc := ⟨.hbm, 1238, rfl⟩
abbrev main_call6_call3_call0_v109 : Ref sig .tc := ⟨.hbm, 1239, rfl⟩
abbrev main_call6_call3_call0_v110 : Ref sig .tc := ⟨.hbm, 1240, rfl⟩
abbrev main_call6_call3_call0_c_28 : Ref sig .tc := ⟨.hbm, 1241, rfl⟩
abbrev main_call6_call3_call0_v111 : Ref sig .tc := ⟨.hbm, 1242, rfl⟩
abbrev main_call6_call3_call0_v112 : Ref sig .tc := ⟨.hbm, 1243, rfl⟩
abbrev main_call6_call3_call0_v113 : Ref sig .tc := ⟨.hbm, 1244, rfl⟩
abbrev main_call6_call3_call0_v114 : Ref sig .tc := ⟨.hbm, 1245, rfl⟩
abbrev main_call6_call3_call0_v115 : Ref sig .tc := ⟨.hbm, 1246, rfl⟩
abbrev main_call6_call3_call0_c_29 : Ref sig .tc := ⟨.hbm, 1247, rfl⟩
abbrev main_call6_call3_call0_v116 : Ref sig .tc := ⟨.hbm, 1248, rfl⟩
abbrev main_call6_call3_call0_v117 : Ref sig .tc := ⟨.hbm, 1249, rfl⟩
abbrev main_call6_call3_call0_c_30 : Ref sig .tc := ⟨.hbm, 1250, rfl⟩
abbrev main_call6_call3_call0_v118 : Ref sig .tc := ⟨.hbm, 1251, rfl⟩
abbrev main_call6_call3_call0_v119 : Ref sig .tc := ⟨.hbm, 1252, rfl⟩
abbrev main_call6_call3_call0_v120 : Ref sig .tc := ⟨.hbm, 1253, rfl⟩
abbrev main_call6_call3_call0_v121 : Ref sig .tc := ⟨.hbm, 1254, rfl⟩
abbrev main_call6_call3_call0_v122 : Ref sig .tc := ⟨.hbm, 1255, rfl⟩
abbrev main_call6_call3_call0_c_31 : Ref sig .tc := ⟨.hbm, 1256, rfl⟩
abbrev main_call6_call3_call0_v123 : Ref sig .tc := ⟨.hbm, 1257, rfl⟩
abbrev main_call6_call3_call0_v124 : Ref sig .tc := ⟨.hbm, 1258, rfl⟩
abbrev main_call6_call3_call0_c_32 : Ref sig .tc := ⟨.hbm, 1259, rfl⟩
abbrev main_call6_call3_call0_v125 : Ref sig .tc := ⟨.hbm, 1260, rfl⟩
abbrev main_call6_call3_call0_v126 : Ref sig .tc := ⟨.hbm, 1261, rfl⟩
abbrev main_call6_call3_call0_v127 : Ref sig .tc := ⟨.hbm, 1262, rfl⟩
abbrev main_call6_call3_call0_v128 : Ref sig .tc := ⟨.hbm, 1263, rfl⟩
abbrev main_call6_call3_call0_v129 : Ref sig .tc := ⟨.hbm, 1264, rfl⟩
abbrev main_call6_call3_call0_c_33 : Ref sig .tc := ⟨.hbm, 1265, rfl⟩
abbrev main_call6_call3_call0_v130 : Ref sig .tc := ⟨.hbm, 1266, rfl⟩
abbrev main_call6_call3_call0_v131 : Ref sig .tc := ⟨.hbm, 1267, rfl⟩
abbrev main_call6_call3_call0_c_34 : Ref sig .tc := ⟨.hbm, 1268, rfl⟩
abbrev main_call6_call3_call0_v132 : Ref sig .tc := ⟨.hbm, 1269, rfl⟩
abbrev main_call6_call3_call0_v133 : Ref sig .tc := ⟨.hbm, 1270, rfl⟩
abbrev main_call6_call3_call0_v134 : Ref sig .tc := ⟨.hbm, 1271, rfl⟩
abbrev main_call6_call3_call0_v135 : Ref sig .tc := ⟨.hbm, 1272, rfl⟩
abbrev main_call6_call3_call0_v136 : Ref sig .tc := ⟨.hbm, 1273, rfl⟩
abbrev main_call6_call3_call0_v137 : Ref sig .tc := ⟨.hbm, 1274, rfl⟩
abbrev main_call6_call3_call0_v138 : Ref sig .tc := ⟨.hbm, 1275, rfl⟩
abbrev main_call6_call3_call0_v139 : Ref sig .tc := ⟨.hbm, 1276, rfl⟩
abbrev main_call6_call3_call0_c_35 : Ref sig .tc := ⟨.hbm, 1277, rfl⟩
abbrev main_call6_call3_call0_v140 : Ref sig .tc := ⟨.hbm, 1278, rfl⟩
abbrev main_call6_call3_call0_v141 : Ref sig .tc := ⟨.hbm, 1279, rfl⟩
abbrev main_call6_call3_call0_v142 : Ref sig .tc := ⟨.hbm, 1280, rfl⟩
abbrev main_call6_call3_call0_c_36 : Ref sig .tc := ⟨.hbm, 1281, rfl⟩
abbrev main_call6_call3_call0_v143 : Ref sig .tc := ⟨.hbm, 1282, rfl⟩
abbrev main_call6_call3_call0_v144 : Ref sig .tc := ⟨.hbm, 1283, rfl⟩
abbrev main_call6_call3_call0_c_37 : Ref sig .tc := ⟨.hbm, 1284, rfl⟩
abbrev main_call6_call3_call0_v145 : Ref sig .tc := ⟨.hbm, 1285, rfl⟩
abbrev main_call6_call3_call0_v146 : Ref sig .tc := ⟨.hbm, 1286, rfl⟩
abbrev main_call6_call3_call0_v147 : Ref sig .tc := ⟨.hbm, 1287, rfl⟩
abbrev main_call6_call3_call0_v148 : Ref sig .tc := ⟨.hbm, 1288, rfl⟩
abbrev main_call6_call3_call0_v149 : Ref sig .tc := ⟨.hbm, 1289, rfl⟩
abbrev main_call6_call3_call0_c_38 : Ref sig .tc := ⟨.hbm, 1290, rfl⟩
abbrev main_call6_call3_call0_v150 : Ref sig .tc := ⟨.hbm, 1291, rfl⟩
abbrev main_call6_call3_call0_v151 : Ref sig .tc := ⟨.hbm, 1292, rfl⟩
abbrev main_call6_call3_call0_c_39 : Ref sig .tc := ⟨.hbm, 1293, rfl⟩
abbrev main_call6_call3_call0_v152 : Ref sig .tc := ⟨.hbm, 1294, rfl⟩
abbrev main_call6_call3_call0_v153 : Ref sig .tc := ⟨.hbm, 1295, rfl⟩
abbrev main_call6_call3_call0_v154 : Ref sig .tc := ⟨.hbm, 1296, rfl⟩
abbrev main_call6_call3_call0_v155 : Ref sig .tc := ⟨.hbm, 1297, rfl⟩
abbrev main_call6_call3_call0_v156 : Ref sig .tc := ⟨.hbm, 1298, rfl⟩
abbrev main_call6_call3_call0_c_40 : Ref sig .tc := ⟨.hbm, 1299, rfl⟩
abbrev main_call6_call3_call0_v157 : Ref sig .tc := ⟨.hbm, 1300, rfl⟩
abbrev main_call6_call3_call0_v158 : Ref sig .tc := ⟨.hbm, 1301, rfl⟩
abbrev main_call6_call3_call0_c_41 : Ref sig .tc := ⟨.hbm, 1302, rfl⟩
abbrev main_call6_call3_call0_v159 : Ref sig .tc := ⟨.hbm, 1303, rfl⟩
abbrev main_call6_call3_call0_v160 : Ref sig .tc := ⟨.hbm, 1304, rfl⟩
abbrev main_call6_call3_call0_v161 : Ref sig .tc := ⟨.hbm, 1305, rfl⟩
abbrev main_call6_call3_call0_v162 : Ref sig .tc := ⟨.hbm, 1306, rfl⟩
abbrev main_call6_call3_call0_v163 : Ref sig .tc := ⟨.hbm, 1307, rfl⟩
abbrev main_call6_call3_call0_c_42 : Ref sig .tc := ⟨.hbm, 1308, rfl⟩
abbrev main_call6_call3_call0_v164 : Ref sig .tc := ⟨.hbm, 1309, rfl⟩
abbrev main_call6_call3_call0_v165 : Ref sig .tc := ⟨.hbm, 1310, rfl⟩
abbrev main_call6_call3_call0_c_43 : Ref sig .tc := ⟨.hbm, 1311, rfl⟩
abbrev main_call6_call3_call0_v166 : Ref sig .tc := ⟨.hbm, 1312, rfl⟩
abbrev main_call6_call3_call0_v167 : Ref sig .tc := ⟨.hbm, 1313, rfl⟩
abbrev main_call6_call3_call0_v168 : Ref sig .tc := ⟨.hbm, 1314, rfl⟩
abbrev main_call6_call3_call0_v169 : Ref sig .tc := ⟨.hbm, 1315, rfl⟩
abbrev main_call6_call3_call0_v170 : Ref sig .tc := ⟨.hbm, 1316, rfl⟩
abbrev main_call6_call3_v11_0 : Ref sig .tc := ⟨.hbm, 1317, rfl⟩
abbrev main_call6_call3_call0_v172 : Ref sig .tc := ⟨.hbm, 1318, rfl⟩
abbrev main_call6_call3_call0_v173 : Ref sig .tc := ⟨.hbm, 1319, rfl⟩
abbrev main_call6_call3_call0_c_44 : Ref sig .tc := ⟨.hbm, 1320, rfl⟩
abbrev main_call6_call3_call0_v174 : Ref sig .tc := ⟨.hbm, 1321, rfl⟩
abbrev main_call6_call3_v11_1 : Ref sig .tc := ⟨.hbm, 1322, rfl⟩
abbrev main_call6_call3_v12 : Ref sig .tc := ⟨.hbm, 1323, rfl⟩
abbrev main_call6_call3_v13 : Ref sig .tc := ⟨.hbm, 1324, rfl⟩
abbrev main_call6_v8 : Ref sig .tc := ⟨.hbm, 1325, rfl⟩
abbrev main_call6_v9 : Ref sig .tc := ⟨.hbm, 1326, rfl⟩
abbrev main_call6_v10 : Ref sig .tc := ⟨.hbm, 1327, rfl⟩
abbrev main_call6_v11 : Ref sig .tc := ⟨.hbm, 1328, rfl⟩
abbrev main_call6_v12 : Ref sig .tc := ⟨.hbm, 1329, rfl⟩
abbrev main_call6_v13 : Ref sig .tc := ⟨.hbm, 1330, rfl⟩
abbrev main_call6_v14 : Ref sig .tc := ⟨.hbm, 1331, rfl⟩
abbrev main_call6_v15 : Ref sig .tc := ⟨.hbm, 1332, rfl⟩
abbrev main_call6_v16 : Ref sig .tc := ⟨.hbm, 1333, rfl⟩
abbrev main_call6_v17 : Ref sig .tc := ⟨.hbm, 1334, rfl⟩
abbrev main_call6_v18 : Ref sig .tc := ⟨.hbm, 1335, rfl⟩
abbrev main_call6_c_6 : Ref sig .tc := ⟨.hbm, 1336, rfl⟩
abbrev main_call6_v19 : Ref sig .tc := ⟨.hbm, 1337, rfl⟩
abbrev main_call6_v20 : Ref sig .tc := ⟨.hbm, 1338, rfl⟩
abbrev main_call6_c_7 : Ref sig .tc := ⟨.hbm, 1339, rfl⟩
abbrev main_call6_v21 : Ref sig .tc := ⟨.hbm, 1340, rfl⟩
abbrev main_call6_v22 : Ref sig .tc := ⟨.hbm, 1341, rfl⟩
abbrev main_call6_v23 : Ref sig .tc := ⟨.hbm, 1342, rfl⟩
abbrev main_call6_c_8 : Ref sig .tc := ⟨.hbm, 1343, rfl⟩
abbrev main_call6_v24 : Ref sig .tc := ⟨.hbm, 1344, rfl⟩
abbrev main_call6_v25 : Ref sig .tc := ⟨.hbm, 1345, rfl⟩
abbrev main_call6_v26 : Ref sig .tc := ⟨.hbm, 1346, rfl⟩
abbrev main_call6_v27 : Ref sig .tc := ⟨.hbm, 1347, rfl⟩
abbrev main_call6_call4_v0 : Ref sig .tc := ⟨.hbm, 1348, rfl⟩
abbrev main_call6_call4_c : Ref sig .tc := ⟨.hbm, 1349, rfl⟩
abbrev main_call6_call4_v1 : Ref sig .tc := ⟨.hbm, 1350, rfl⟩
abbrev main_call6_call4_v2 : Ref sig .tc := ⟨.hbm, 1351, rfl⟩
abbrev main_call6_call4_v3 : Ref sig .tc := ⟨.hbm, 1352, rfl⟩
abbrev main_call6_call4_v4 : Ref sig .tc := ⟨.hbm, 1353, rfl⟩
abbrev main_call6_call4_v5 : Ref sig .tc := ⟨.hbm, 1354, rfl⟩
abbrev main_call6_call4_v6 : Ref sig .tc := ⟨.hbm, 1355, rfl⟩
abbrev main_call6_call4_c_0 : Ref sig .tc := ⟨.hbm, 1356, rfl⟩
abbrev main_call6_call4_v7 : Ref sig .tc := ⟨.hbm, 1357, rfl⟩
abbrev main_call6_call4_v8 : Ref sig .tc := ⟨.hbm, 1358, rfl⟩
abbrev main_call6_call4_c_1 : Ref sig .tc := ⟨.hbm, 1359, rfl⟩
abbrev main_call6_call4_v9 : Ref sig .tc := ⟨.hbm, 1360, rfl⟩
abbrev main_call6_call4_v10 : Ref sig .tc := ⟨.hbm, 1361, rfl⟩
abbrev main_call6_call4_v11 : Ref sig .tc := ⟨.hbm, 1362, rfl⟩
abbrev main_call6_call4_v12 : Ref sig .tc := ⟨.hbm, 1363, rfl⟩
abbrev main_call6_call4_v13 : Ref sig .tc := ⟨.hbm, 1364, rfl⟩
abbrev main_call6_call4_c_2 : Ref sig .tc := ⟨.hbm, 1365, rfl⟩
abbrev main_call6_call4_v14 : Ref sig .tc := ⟨.hbm, 1366, rfl⟩
abbrev main_call6_call4_v15 : Ref sig .tc := ⟨.hbm, 1367, rfl⟩
abbrev main_call6_call4_c_3 : Ref sig .tc := ⟨.hbm, 1368, rfl⟩
abbrev main_call6_call4_v16 : Ref sig .tc := ⟨.hbm, 1369, rfl⟩
abbrev main_call6_call4_v17 : Ref sig .tc := ⟨.hbm, 1370, rfl⟩
abbrev main_call6_call4_v18 : Ref sig .tc := ⟨.hbm, 1371, rfl⟩
abbrev main_call6_call4_v19 : Ref sig .tc := ⟨.hbm, 1372, rfl⟩
abbrev main_call6_call4_v20 : Ref sig .tc := ⟨.hbm, 1373, rfl⟩
abbrev main_call6_call4_c_4 : Ref sig .tc := ⟨.hbm, 1374, rfl⟩
abbrev main_call6_call4_v21 : Ref sig .tc := ⟨.hbm, 1375, rfl⟩
abbrev main_call6_call4_v22 : Ref sig .tc := ⟨.hbm, 1376, rfl⟩
abbrev main_call6_call4_c_5 : Ref sig .tc := ⟨.hbm, 1377, rfl⟩
abbrev main_call6_call4_v23 : Ref sig .tc := ⟨.hbm, 1378, rfl⟩
abbrev main_call6_call4_v24 : Ref sig .tc := ⟨.hbm, 1379, rfl⟩
abbrev main_call6_call4_v25 : Ref sig .tc := ⟨.hbm, 1380, rfl⟩
abbrev main_call6_call4_v26 : Ref sig .tc := ⟨.hbm, 1381, rfl⟩
abbrev main_call6_call4_v27 : Ref sig .tc := ⟨.hbm, 1382, rfl⟩
abbrev main_call6_call4_c_6 : Ref sig .tc := ⟨.hbm, 1383, rfl⟩
abbrev main_call6_call4_v28 : Ref sig .tc := ⟨.hbm, 1384, rfl⟩
abbrev main_call6_call4_v29 : Ref sig .tc := ⟨.hbm, 1385, rfl⟩
abbrev main_call6_call4_c_7 : Ref sig .tc := ⟨.hbm, 1386, rfl⟩
abbrev main_call6_call4_v30 : Ref sig .tc := ⟨.hbm, 1387, rfl⟩
abbrev main_call6_call4_v31 : Ref sig .tc := ⟨.hbm, 1388, rfl⟩
abbrev main_call6_call4_v32 : Ref sig .tc := ⟨.hbm, 1389, rfl⟩
abbrev main_call6_call4_v33 : Ref sig .tc := ⟨.hbm, 1390, rfl⟩
abbrev main_call6_call4_v34 : Ref sig .tc := ⟨.hbm, 1391, rfl⟩
abbrev main_call6_call4_v35 : Ref sig .tc := ⟨.hbm, 1392, rfl⟩
abbrev main_call6_call4_v36 : Ref sig .tc := ⟨.hbm, 1393, rfl⟩
abbrev main_call6_call4_v37 : Ref sig .tc := ⟨.hbm, 1394, rfl⟩
abbrev main_call6_call4_c_8 : Ref sig .tc := ⟨.hbm, 1395, rfl⟩
abbrev main_call6_call4_v38 : Ref sig .tc := ⟨.hbm, 1396, rfl⟩
abbrev main_call6_call4_v39 : Ref sig .tc := ⟨.hbm, 1397, rfl⟩
abbrev main_call6_call4_v40 : Ref sig .tc := ⟨.hbm, 1398, rfl⟩
abbrev main_call6_call4_c_9 : Ref sig .tc := ⟨.hbm, 1399, rfl⟩
abbrev main_call6_call4_v41 : Ref sig .tc := ⟨.hbm, 1400, rfl⟩
abbrev main_call6_call4_v42 : Ref sig .tc := ⟨.hbm, 1401, rfl⟩
abbrev main_call6_call4_c_10 : Ref sig .tc := ⟨.hbm, 1402, rfl⟩
abbrev main_call6_call4_v43 : Ref sig .tc := ⟨.hbm, 1403, rfl⟩
abbrev main_call6_call4_v44 : Ref sig .tc := ⟨.hbm, 1404, rfl⟩
abbrev main_call6_call4_v45 : Ref sig .tc := ⟨.hbm, 1405, rfl⟩
abbrev main_call6_call4_v46 : Ref sig .tc := ⟨.hbm, 1406, rfl⟩
abbrev main_call6_call4_v47 : Ref sig .tc := ⟨.hbm, 1407, rfl⟩
abbrev main_call6_call4_c_11 : Ref sig .tc := ⟨.hbm, 1408, rfl⟩
abbrev main_call6_call4_v48 : Ref sig .tc := ⟨.hbm, 1409, rfl⟩
abbrev main_call6_call4_v49 : Ref sig .tc := ⟨.hbm, 1410, rfl⟩
abbrev main_call6_call4_c_12 : Ref sig .tc := ⟨.hbm, 1411, rfl⟩
abbrev main_call6_call4_v50 : Ref sig .tc := ⟨.hbm, 1412, rfl⟩
abbrev main_call6_call4_v51 : Ref sig .tc := ⟨.hbm, 1413, rfl⟩
abbrev main_call6_call4_v52 : Ref sig .tc := ⟨.hbm, 1414, rfl⟩
abbrev main_call6_call4_v53 : Ref sig .tc := ⟨.hbm, 1415, rfl⟩
abbrev main_call6_call4_v54 : Ref sig .tc := ⟨.hbm, 1416, rfl⟩
abbrev main_call6_call4_c_13 : Ref sig .tc := ⟨.hbm, 1417, rfl⟩
abbrev main_call6_call4_v55 : Ref sig .tc := ⟨.hbm, 1418, rfl⟩
abbrev main_call6_call4_v56 : Ref sig .tc := ⟨.hbm, 1419, rfl⟩
abbrev main_call6_call4_c_14 : Ref sig .tc := ⟨.hbm, 1420, rfl⟩
abbrev main_call6_call4_v57 : Ref sig .tc := ⟨.hbm, 1421, rfl⟩
abbrev main_call6_call4_v58 : Ref sig .tc := ⟨.hbm, 1422, rfl⟩
abbrev main_call6_call4_v59 : Ref sig .tc := ⟨.hbm, 1423, rfl⟩
abbrev main_call6_call4_v60 : Ref sig .tc := ⟨.hbm, 1424, rfl⟩
abbrev main_call6_call4_v61 : Ref sig .tc := ⟨.hbm, 1425, rfl⟩
abbrev main_call6_call4_c_15 : Ref sig .tc := ⟨.hbm, 1426, rfl⟩
abbrev main_call6_call4_v62 : Ref sig .tc := ⟨.hbm, 1427, rfl⟩
abbrev main_call6_call4_v63 : Ref sig .tc := ⟨.hbm, 1428, rfl⟩
abbrev main_call6_call4_c_16 : Ref sig .tc := ⟨.hbm, 1429, rfl⟩
abbrev main_call6_call4_v64 : Ref sig .tc := ⟨.hbm, 1430, rfl⟩
abbrev main_call6_call4_v65 : Ref sig .tc := ⟨.hbm, 1431, rfl⟩
abbrev main_call6_call4_v66 : Ref sig .tc := ⟨.hbm, 1432, rfl⟩
abbrev main_call6_call4_v67 : Ref sig .tc := ⟨.hbm, 1433, rfl⟩
abbrev main_call6_call4_v68 : Ref sig .tc := ⟨.hbm, 1434, rfl⟩
abbrev main_call6_call4_v69 : Ref sig .tc := ⟨.hbm, 1435, rfl⟩
abbrev main_call6_call4_v70 : Ref sig .tc := ⟨.hbm, 1436, rfl⟩
abbrev main_call6_call4_v71 : Ref sig .tc := ⟨.hbm, 1437, rfl⟩
abbrev main_call6_call4_c_17 : Ref sig .tc := ⟨.hbm, 1438, rfl⟩
abbrev main_call6_call4_v72 : Ref sig .tc := ⟨.hbm, 1439, rfl⟩
abbrev main_call6_call4_v73 : Ref sig .tc := ⟨.hbm, 1440, rfl⟩
abbrev main_call6_call4_v74 : Ref sig .tc := ⟨.hbm, 1441, rfl⟩
abbrev main_call6_call4_c_18 : Ref sig .tc := ⟨.hbm, 1442, rfl⟩
abbrev main_call6_call4_v75 : Ref sig .tc := ⟨.hbm, 1443, rfl⟩
abbrev main_call6_call4_v76 : Ref sig .tc := ⟨.hbm, 1444, rfl⟩
abbrev main_call6_call4_c_19 : Ref sig .tc := ⟨.hbm, 1445, rfl⟩
abbrev main_call6_call4_v77 : Ref sig .tc := ⟨.hbm, 1446, rfl⟩
abbrev main_call6_call4_v78 : Ref sig .tc := ⟨.hbm, 1447, rfl⟩
abbrev main_call6_call4_v79 : Ref sig .tc := ⟨.hbm, 1448, rfl⟩
abbrev main_call6_call4_v80 : Ref sig .tc := ⟨.hbm, 1449, rfl⟩
abbrev main_call6_call4_v81 : Ref sig .tc := ⟨.hbm, 1450, rfl⟩
abbrev main_call6_call4_c_20 : Ref sig .tc := ⟨.hbm, 1451, rfl⟩
abbrev main_call6_call4_v82 : Ref sig .tc := ⟨.hbm, 1452, rfl⟩
abbrev main_call6_call4_v83 : Ref sig .tc := ⟨.hbm, 1453, rfl⟩
abbrev main_call6_call4_c_21 : Ref sig .tc := ⟨.hbm, 1454, rfl⟩
abbrev main_call6_call4_v84 : Ref sig .tc := ⟨.hbm, 1455, rfl⟩
abbrev main_call6_call4_v85 : Ref sig .tc := ⟨.hbm, 1456, rfl⟩
abbrev main_call6_call4_v86 : Ref sig .tc := ⟨.hbm, 1457, rfl⟩
abbrev main_call6_call4_v87 : Ref sig .tc := ⟨.hbm, 1458, rfl⟩
abbrev main_call6_call4_v88 : Ref sig .tc := ⟨.hbm, 1459, rfl⟩
abbrev main_call6_call4_c_22 : Ref sig .tc := ⟨.hbm, 1460, rfl⟩
abbrev main_call6_call4_v89 : Ref sig .tc := ⟨.hbm, 1461, rfl⟩
abbrev main_call6_call4_v90 : Ref sig .tc := ⟨.hbm, 1462, rfl⟩
abbrev main_call6_call4_c_23 : Ref sig .tc := ⟨.hbm, 1463, rfl⟩
abbrev main_call6_call4_v91 : Ref sig .tc := ⟨.hbm, 1464, rfl⟩
abbrev main_call6_call4_v92 : Ref sig .tc := ⟨.hbm, 1465, rfl⟩
abbrev main_call6_call4_v93 : Ref sig .tc := ⟨.hbm, 1466, rfl⟩
abbrev main_call6_call4_v94 : Ref sig .tc := ⟨.hbm, 1467, rfl⟩
abbrev main_call6_call4_v95 : Ref sig .tc := ⟨.hbm, 1468, rfl⟩
abbrev main_call6_call4_c_24 : Ref sig .tc := ⟨.hbm, 1469, rfl⟩
abbrev main_call6_call4_v96 : Ref sig .tc := ⟨.hbm, 1470, rfl⟩
abbrev main_call6_call4_v97 : Ref sig .tc := ⟨.hbm, 1471, rfl⟩
abbrev main_call6_call4_c_25 : Ref sig .tc := ⟨.hbm, 1472, rfl⟩
abbrev main_call6_call4_v98 : Ref sig .tc := ⟨.hbm, 1473, rfl⟩
abbrev main_call6_call4_v99 : Ref sig .tc := ⟨.hbm, 1474, rfl⟩
abbrev main_call6_call4_v100 : Ref sig .tc := ⟨.hbm, 1475, rfl⟩
abbrev main_call6_call4_v101 : Ref sig .tc := ⟨.hbm, 1476, rfl⟩
abbrev main_call6_call4_v102 : Ref sig .tc := ⟨.hbm, 1477, rfl⟩
abbrev main_call6_call4_v103 : Ref sig .tc := ⟨.hbm, 1478, rfl⟩
abbrev main_call6_call4_v104 : Ref sig .tc := ⟨.hbm, 1479, rfl⟩
abbrev main_call6_call4_v105 : Ref sig .tc := ⟨.hbm, 1480, rfl⟩
abbrev main_call6_call4_c_26 : Ref sig .tc := ⟨.hbm, 1481, rfl⟩
abbrev main_call6_call4_v106 : Ref sig .tc := ⟨.hbm, 1482, rfl⟩
abbrev main_call6_call4_v107 : Ref sig .tc := ⟨.hbm, 1483, rfl⟩
abbrev main_call6_call4_v108 : Ref sig .tc := ⟨.hbm, 1484, rfl⟩
abbrev main_call6_call4_c_27 : Ref sig .tc := ⟨.hbm, 1485, rfl⟩
abbrev main_call6_call4_v109 : Ref sig .tc := ⟨.hbm, 1486, rfl⟩
abbrev main_call6_call4_v110 : Ref sig .tc := ⟨.hbm, 1487, rfl⟩
abbrev main_call6_call4_c_28 : Ref sig .tc := ⟨.hbm, 1488, rfl⟩
abbrev main_call6_call4_v111 : Ref sig .tc := ⟨.hbm, 1489, rfl⟩
abbrev main_call6_call4_v112 : Ref sig .tc := ⟨.hbm, 1490, rfl⟩
abbrev main_call6_call4_v113 : Ref sig .tc := ⟨.hbm, 1491, rfl⟩
abbrev main_call6_call4_v114 : Ref sig .tc := ⟨.hbm, 1492, rfl⟩
abbrev main_call6_call4_v115 : Ref sig .tc := ⟨.hbm, 1493, rfl⟩
abbrev main_call6_call4_c_29 : Ref sig .tc := ⟨.hbm, 1494, rfl⟩
abbrev main_call6_call4_v116 : Ref sig .tc := ⟨.hbm, 1495, rfl⟩
abbrev main_call6_call4_v117 : Ref sig .tc := ⟨.hbm, 1496, rfl⟩
abbrev main_call6_call4_c_30 : Ref sig .tc := ⟨.hbm, 1497, rfl⟩
abbrev main_call6_call4_v118 : Ref sig .tc := ⟨.hbm, 1498, rfl⟩
abbrev main_call6_call4_v119 : Ref sig .tc := ⟨.hbm, 1499, rfl⟩
abbrev main_call6_call4_v120 : Ref sig .tc := ⟨.hbm, 1500, rfl⟩
abbrev main_call6_call4_v121 : Ref sig .tc := ⟨.hbm, 1501, rfl⟩
abbrev main_call6_call4_v122 : Ref sig .tc := ⟨.hbm, 1502, rfl⟩
abbrev main_call6_call4_c_31 : Ref sig .tc := ⟨.hbm, 1503, rfl⟩
abbrev main_call6_call4_v123 : Ref sig .tc := ⟨.hbm, 1504, rfl⟩
abbrev main_call6_call4_v124 : Ref sig .tc := ⟨.hbm, 1505, rfl⟩
abbrev main_call6_call4_c_32 : Ref sig .tc := ⟨.hbm, 1506, rfl⟩
abbrev main_call6_call4_v125 : Ref sig .tc := ⟨.hbm, 1507, rfl⟩
abbrev main_call6_call4_v126 : Ref sig .tc := ⟨.hbm, 1508, rfl⟩
abbrev main_call6_call4_v127 : Ref sig .tc := ⟨.hbm, 1509, rfl⟩
abbrev main_call6_call4_v128 : Ref sig .tc := ⟨.hbm, 1510, rfl⟩
abbrev main_call6_call4_v129 : Ref sig .tc := ⟨.hbm, 1511, rfl⟩
abbrev main_call6_call4_c_33 : Ref sig .tc := ⟨.hbm, 1512, rfl⟩
abbrev main_call6_call4_v130 : Ref sig .tc := ⟨.hbm, 1513, rfl⟩
abbrev main_call6_call4_v131 : Ref sig .tc := ⟨.hbm, 1514, rfl⟩
abbrev main_call6_call4_c_34 : Ref sig .tc := ⟨.hbm, 1515, rfl⟩
abbrev main_call6_call4_v132 : Ref sig .tc := ⟨.hbm, 1516, rfl⟩
abbrev main_call6_call4_v133 : Ref sig .tc := ⟨.hbm, 1517, rfl⟩
abbrev main_call6_call4_v134 : Ref sig .tc := ⟨.hbm, 1518, rfl⟩
abbrev main_call6_call4_v135 : Ref sig .tc := ⟨.hbm, 1519, rfl⟩
abbrev main_call6_call4_v136 : Ref sig .tc := ⟨.hbm, 1520, rfl⟩
abbrev main_call6_call4_v137 : Ref sig .tc := ⟨.hbm, 1521, rfl⟩
abbrev main_call6_call4_v138 : Ref sig .tc := ⟨.hbm, 1522, rfl⟩
abbrev main_call6_call4_v139 : Ref sig .tc := ⟨.hbm, 1523, rfl⟩
abbrev main_call6_call4_c_35 : Ref sig .tc := ⟨.hbm, 1524, rfl⟩
abbrev main_call6_call4_v140 : Ref sig .tc := ⟨.hbm, 1525, rfl⟩
abbrev main_call6_call4_v141 : Ref sig .tc := ⟨.hbm, 1526, rfl⟩
abbrev main_call6_call4_v142 : Ref sig .tc := ⟨.hbm, 1527, rfl⟩
abbrev main_call6_call4_c_36 : Ref sig .tc := ⟨.hbm, 1528, rfl⟩
abbrev main_call6_call4_v143 : Ref sig .tc := ⟨.hbm, 1529, rfl⟩
abbrev main_call6_call4_v144 : Ref sig .tc := ⟨.hbm, 1530, rfl⟩
abbrev main_call6_call4_c_37 : Ref sig .tc := ⟨.hbm, 1531, rfl⟩
abbrev main_call6_call4_v145 : Ref sig .tc := ⟨.hbm, 1532, rfl⟩
abbrev main_call6_call4_v146 : Ref sig .tc := ⟨.hbm, 1533, rfl⟩
abbrev main_call6_call4_v147 : Ref sig .tc := ⟨.hbm, 1534, rfl⟩
abbrev main_call6_call4_v148 : Ref sig .tc := ⟨.hbm, 1535, rfl⟩
abbrev main_call6_call4_v149 : Ref sig .tc := ⟨.hbm, 1536, rfl⟩
abbrev main_call6_call4_c_38 : Ref sig .tc := ⟨.hbm, 1537, rfl⟩
abbrev main_call6_call4_v150 : Ref sig .tc := ⟨.hbm, 1538, rfl⟩
abbrev main_call6_call4_v151 : Ref sig .tc := ⟨.hbm, 1539, rfl⟩
abbrev main_call6_call4_c_39 : Ref sig .tc := ⟨.hbm, 1540, rfl⟩
abbrev main_call6_call4_v152 : Ref sig .tc := ⟨.hbm, 1541, rfl⟩
abbrev main_call6_call4_v153 : Ref sig .tc := ⟨.hbm, 1542, rfl⟩
abbrev main_call6_call4_v154 : Ref sig .tc := ⟨.hbm, 1543, rfl⟩
abbrev main_call6_call4_v155 : Ref sig .tc := ⟨.hbm, 1544, rfl⟩
abbrev main_call6_call4_v156 : Ref sig .tc := ⟨.hbm, 1545, rfl⟩
abbrev main_call6_call4_c_40 : Ref sig .tc := ⟨.hbm, 1546, rfl⟩
abbrev main_call6_call4_v157 : Ref sig .tc := ⟨.hbm, 1547, rfl⟩
abbrev main_call6_call4_v158 : Ref sig .tc := ⟨.hbm, 1548, rfl⟩
abbrev main_call6_call4_c_41 : Ref sig .tc := ⟨.hbm, 1549, rfl⟩
abbrev main_call6_call4_v159 : Ref sig .tc := ⟨.hbm, 1550, rfl⟩
abbrev main_call6_call4_v160 : Ref sig .tc := ⟨.hbm, 1551, rfl⟩
abbrev main_call6_call4_v161 : Ref sig .tc := ⟨.hbm, 1552, rfl⟩
abbrev main_call6_call4_v162 : Ref sig .tc := ⟨.hbm, 1553, rfl⟩
abbrev main_call6_call4_v163 : Ref sig .tc := ⟨.hbm, 1554, rfl⟩
abbrev main_call6_call4_c_42 : Ref sig .tc := ⟨.hbm, 1555, rfl⟩
abbrev main_call6_call4_v164 : Ref sig .tc := ⟨.hbm, 1556, rfl⟩
abbrev main_call6_call4_v165 : Ref sig .tc := ⟨.hbm, 1557, rfl⟩
abbrev main_call6_call4_c_43 : Ref sig .tc := ⟨.hbm, 1558, rfl⟩
abbrev main_call6_call4_v166 : Ref sig .tc := ⟨.hbm, 1559, rfl⟩
abbrev main_call6_call4_v167 : Ref sig .tc := ⟨.hbm, 1560, rfl⟩
abbrev main_call6_call4_v168 : Ref sig .tc := ⟨.hbm, 1561, rfl⟩
abbrev main_call6_call4_v169 : Ref sig .tc := ⟨.hbm, 1562, rfl⟩
abbrev main_call6_call4_v170 : Ref sig .tc := ⟨.hbm, 1563, rfl⟩
abbrev main_call6_v28_0 : Ref sig .tc := ⟨.hbm, 1564, rfl⟩
abbrev main_call6_call4_v172 : Ref sig .tc := ⟨.hbm, 1565, rfl⟩
abbrev main_call6_call4_v173 : Ref sig .tc := ⟨.hbm, 1566, rfl⟩
abbrev main_call6_call4_c_44 : Ref sig .tc := ⟨.hbm, 1567, rfl⟩
abbrev main_call6_call4_v174 : Ref sig .tc := ⟨.hbm, 1568, rfl⟩
abbrev main_call6_v28_1 : Ref sig .tc := ⟨.hbm, 1569, rfl⟩
abbrev main_call6_v29 : Ref sig .tc := ⟨.hbm, 1570, rfl⟩
abbrev main_call6_v30 : Ref sig .tc := ⟨.hbm, 1571, rfl⟩
abbrev main_call6_v31 : Ref sig .tc := ⟨.hbm, 1572, rfl⟩
abbrev main_call6_v32 : Ref sig .tc := ⟨.hbm, 1573, rfl⟩
abbrev main_call6_v33 : Ref sig .tc := ⟨.hbm, 1574, rfl⟩
abbrev main_call6_v34 : Ref sig .tc := ⟨.hbm, 1575, rfl⟩
abbrev main_call6_v35 : Ref sig .tc := ⟨.hbm, 1576, rfl⟩
abbrev main_call6_c_9 : Ref sig .tc := ⟨.hbm, 1577, rfl⟩
abbrev main_call6_v36 : Ref sig .tc := ⟨.hbm, 1578, rfl⟩
abbrev main_call6_v37 : Ref sig .tc := ⟨.hbm, 1579, rfl⟩
abbrev main_call6_c_10 : Ref sig .tc := ⟨.hbm, 1580, rfl⟩
abbrev main_call6_v38 : Ref sig .tc := ⟨.hbm, 1581, rfl⟩
abbrev main_call6_v39 : Ref sig .tc := ⟨.hbm, 1582, rfl⟩
abbrev main_call6_v40 : Ref sig .tc := ⟨.hbm, 1583, rfl⟩
abbrev main_call6_c_11 : Ref sig .tc := ⟨.hbm, 1584, rfl⟩
abbrev main_call6_v41 : Ref sig .tc := ⟨.hbm, 1585, rfl⟩
abbrev main_call6_v42 : Ref sig .tc := ⟨.hbm, 1586, rfl⟩
abbrev main_call6_v43 : Ref sig .tc := ⟨.hbm, 1587, rfl⟩
abbrev main_call6_v44 : Ref sig .tc := ⟨.hbm, 1588, rfl⟩
abbrev main_call6_call5_v0 : Ref sig .tc := ⟨.hbm, 1589, rfl⟩
abbrev main_call6_call5_c : Ref sig .tc := ⟨.hbm, 1590, rfl⟩
abbrev main_call6_call5_v1 : Ref sig .tc := ⟨.hbm, 1591, rfl⟩
abbrev main_call6_call5_v2 : Ref sig .tc := ⟨.hbm, 1592, rfl⟩
abbrev main_call6_call5_v3 : Ref sig .tc := ⟨.hbm, 1593, rfl⟩
abbrev main_call6_call5_v4 : Ref sig .tc := ⟨.hbm, 1594, rfl⟩
abbrev main_call6_call5_v5 : Ref sig .tc := ⟨.hbm, 1595, rfl⟩
abbrev main_call6_call5_v6 : Ref sig .tc := ⟨.hbm, 1596, rfl⟩
abbrev main_call6_call5_c_0 : Ref sig .tc := ⟨.hbm, 1597, rfl⟩
abbrev main_call6_call5_v7 : Ref sig .tc := ⟨.hbm, 1598, rfl⟩
abbrev main_call6_call5_v8 : Ref sig .tc := ⟨.hbm, 1599, rfl⟩
abbrev main_call6_call5_c_1 : Ref sig .tc := ⟨.hbm, 1600, rfl⟩
abbrev main_call6_call5_v9 : Ref sig .tc := ⟨.hbm, 1601, rfl⟩
abbrev main_call6_call5_v10 : Ref sig .tc := ⟨.hbm, 1602, rfl⟩
abbrev main_call6_call5_v11 : Ref sig .tc := ⟨.hbm, 1603, rfl⟩
abbrev main_call6_call5_v12 : Ref sig .tc := ⟨.hbm, 1604, rfl⟩
abbrev main_call6_call5_v13 : Ref sig .tc := ⟨.hbm, 1605, rfl⟩
abbrev main_call6_call5_c_2 : Ref sig .tc := ⟨.hbm, 1606, rfl⟩
abbrev main_call6_call5_v14 : Ref sig .tc := ⟨.hbm, 1607, rfl⟩
abbrev main_call6_call5_v15 : Ref sig .tc := ⟨.hbm, 1608, rfl⟩
abbrev main_call6_call5_c_3 : Ref sig .tc := ⟨.hbm, 1609, rfl⟩
abbrev main_call6_call5_v16 : Ref sig .tc := ⟨.hbm, 1610, rfl⟩
abbrev main_call6_call5_v17 : Ref sig .tc := ⟨.hbm, 1611, rfl⟩
abbrev main_call6_call5_v18 : Ref sig .tc := ⟨.hbm, 1612, rfl⟩
abbrev main_call6_call5_v19 : Ref sig .tc := ⟨.hbm, 1613, rfl⟩
abbrev main_call6_call5_v20 : Ref sig .tc := ⟨.hbm, 1614, rfl⟩
abbrev main_call6_call5_c_4 : Ref sig .tc := ⟨.hbm, 1615, rfl⟩
abbrev main_call6_call5_v21 : Ref sig .tc := ⟨.hbm, 1616, rfl⟩
abbrev main_call6_call5_v22 : Ref sig .tc := ⟨.hbm, 1617, rfl⟩
abbrev main_call6_call5_c_5 : Ref sig .tc := ⟨.hbm, 1618, rfl⟩
abbrev main_call6_call5_v23 : Ref sig .tc := ⟨.hbm, 1619, rfl⟩
abbrev main_call6_call5_v24 : Ref sig .tc := ⟨.hbm, 1620, rfl⟩
abbrev main_call6_call5_v25 : Ref sig .tc := ⟨.hbm, 1621, rfl⟩
abbrev main_call6_call5_v26 : Ref sig .tc := ⟨.hbm, 1622, rfl⟩
abbrev main_call6_call5_v27 : Ref sig .tc := ⟨.hbm, 1623, rfl⟩
abbrev main_call6_call5_c_6 : Ref sig .tc := ⟨.hbm, 1624, rfl⟩
abbrev main_call6_call5_v28 : Ref sig .tc := ⟨.hbm, 1625, rfl⟩
abbrev main_call6_call5_v29 : Ref sig .tc := ⟨.hbm, 1626, rfl⟩
abbrev main_call6_call5_c_7 : Ref sig .tc := ⟨.hbm, 1627, rfl⟩
abbrev main_call6_call5_v30 : Ref sig .tc := ⟨.hbm, 1628, rfl⟩
abbrev main_call6_call5_v31 : Ref sig .tc := ⟨.hbm, 1629, rfl⟩
abbrev main_call6_call5_v32 : Ref sig .tc := ⟨.hbm, 1630, rfl⟩
abbrev main_call6_call5_v33 : Ref sig .tc := ⟨.hbm, 1631, rfl⟩
abbrev main_call6_call5_v34 : Ref sig .tc := ⟨.hbm, 1632, rfl⟩
abbrev main_call6_call5_v35 : Ref sig .tc := ⟨.hbm, 1633, rfl⟩
abbrev main_call6_call5_v36 : Ref sig .tc := ⟨.hbm, 1634, rfl⟩
abbrev main_call6_call5_v37 : Ref sig .tc := ⟨.hbm, 1635, rfl⟩
abbrev main_call6_call5_c_8 : Ref sig .tc := ⟨.hbm, 1636, rfl⟩
abbrev main_call6_call5_v38 : Ref sig .tc := ⟨.hbm, 1637, rfl⟩
abbrev main_call6_call5_v39 : Ref sig .tc := ⟨.hbm, 1638, rfl⟩
abbrev main_call6_call5_v40 : Ref sig .tc := ⟨.hbm, 1639, rfl⟩
abbrev main_call6_call5_c_9 : Ref sig .tc := ⟨.hbm, 1640, rfl⟩
abbrev main_call6_call5_v41 : Ref sig .tc := ⟨.hbm, 1641, rfl⟩
abbrev main_call6_call5_v42 : Ref sig .tc := ⟨.hbm, 1642, rfl⟩
abbrev main_call6_call5_c_10 : Ref sig .tc := ⟨.hbm, 1643, rfl⟩
abbrev main_call6_call5_v43 : Ref sig .tc := ⟨.hbm, 1644, rfl⟩
abbrev main_call6_call5_v44 : Ref sig .tc := ⟨.hbm, 1645, rfl⟩
abbrev main_call6_call5_v45 : Ref sig .tc := ⟨.hbm, 1646, rfl⟩
abbrev main_call6_call5_v46 : Ref sig .tc := ⟨.hbm, 1647, rfl⟩
abbrev main_call6_call5_v47 : Ref sig .tc := ⟨.hbm, 1648, rfl⟩
abbrev main_call6_call5_c_11 : Ref sig .tc := ⟨.hbm, 1649, rfl⟩
abbrev main_call6_call5_v48 : Ref sig .tc := ⟨.hbm, 1650, rfl⟩
abbrev main_call6_call5_v49 : Ref sig .tc := ⟨.hbm, 1651, rfl⟩
abbrev main_call6_call5_c_12 : Ref sig .tc := ⟨.hbm, 1652, rfl⟩
abbrev main_call6_call5_v50 : Ref sig .tc := ⟨.hbm, 1653, rfl⟩
abbrev main_call6_call5_v51 : Ref sig .tc := ⟨.hbm, 1654, rfl⟩
abbrev main_call6_call5_v52 : Ref sig .tc := ⟨.hbm, 1655, rfl⟩
abbrev main_call6_call5_v53 : Ref sig .tc := ⟨.hbm, 1656, rfl⟩
abbrev main_call6_call5_v54 : Ref sig .tc := ⟨.hbm, 1657, rfl⟩
abbrev main_call6_call5_c_13 : Ref sig .tc := ⟨.hbm, 1658, rfl⟩
abbrev main_call6_call5_v55 : Ref sig .tc := ⟨.hbm, 1659, rfl⟩
abbrev main_call6_call5_v56 : Ref sig .tc := ⟨.hbm, 1660, rfl⟩
abbrev main_call6_call5_c_14 : Ref sig .tc := ⟨.hbm, 1661, rfl⟩
abbrev main_call6_call5_v57 : Ref sig .tc := ⟨.hbm, 1662, rfl⟩
abbrev main_call6_call5_v58 : Ref sig .tc := ⟨.hbm, 1663, rfl⟩
abbrev main_call6_call5_v59 : Ref sig .tc := ⟨.hbm, 1664, rfl⟩
abbrev main_call6_call5_v60 : Ref sig .tc := ⟨.hbm, 1665, rfl⟩
abbrev main_call6_call5_v61 : Ref sig .tc := ⟨.hbm, 1666, rfl⟩
abbrev main_call6_call5_c_15 : Ref sig .tc := ⟨.hbm, 1667, rfl⟩
abbrev main_call6_call5_v62 : Ref sig .tc := ⟨.hbm, 1668, rfl⟩
abbrev main_call6_call5_v63 : Ref sig .tc := ⟨.hbm, 1669, rfl⟩
abbrev main_call6_call5_c_16 : Ref sig .tc := ⟨.hbm, 1670, rfl⟩
abbrev main_call6_call5_v64 : Ref sig .tc := ⟨.hbm, 1671, rfl⟩
abbrev main_call6_call5_v65 : Ref sig .tc := ⟨.hbm, 1672, rfl⟩
abbrev main_call6_call5_v66 : Ref sig .tc := ⟨.hbm, 1673, rfl⟩
abbrev main_call6_call5_v67 : Ref sig .tc := ⟨.hbm, 1674, rfl⟩
abbrev main_call6_call5_v68 : Ref sig .tc := ⟨.hbm, 1675, rfl⟩
abbrev main_call6_call5_v69 : Ref sig .tc := ⟨.hbm, 1676, rfl⟩
abbrev main_call6_call5_v70 : Ref sig .tc := ⟨.hbm, 1677, rfl⟩
abbrev main_call6_call5_v71 : Ref sig .tc := ⟨.hbm, 1678, rfl⟩
abbrev main_call6_call5_c_17 : Ref sig .tc := ⟨.hbm, 1679, rfl⟩
abbrev main_call6_call5_v72 : Ref sig .tc := ⟨.hbm, 1680, rfl⟩
abbrev main_call6_call5_v73 : Ref sig .tc := ⟨.hbm, 1681, rfl⟩
abbrev main_call6_call5_v74 : Ref sig .tc := ⟨.hbm, 1682, rfl⟩
abbrev main_call6_call5_c_18 : Ref sig .tc := ⟨.hbm, 1683, rfl⟩
abbrev main_call6_call5_v75 : Ref sig .tc := ⟨.hbm, 1684, rfl⟩
abbrev main_call6_call5_v76 : Ref sig .tc := ⟨.hbm, 1685, rfl⟩
abbrev main_call6_call5_c_19 : Ref sig .tc := ⟨.hbm, 1686, rfl⟩
abbrev main_call6_call5_v77 : Ref sig .tc := ⟨.hbm, 1687, rfl⟩
abbrev main_call6_call5_v78 : Ref sig .tc := ⟨.hbm, 1688, rfl⟩
abbrev main_call6_call5_v79 : Ref sig .tc := ⟨.hbm, 1689, rfl⟩
abbrev main_call6_call5_v80 : Ref sig .tc := ⟨.hbm, 1690, rfl⟩
abbrev main_call6_call5_v81 : Ref sig .tc := ⟨.hbm, 1691, rfl⟩
abbrev main_call6_call5_c_20 : Ref sig .tc := ⟨.hbm, 1692, rfl⟩
abbrev main_call6_call5_v82 : Ref sig .tc := ⟨.hbm, 1693, rfl⟩
abbrev main_call6_call5_v83 : Ref sig .tc := ⟨.hbm, 1694, rfl⟩
abbrev main_call6_call5_c_21 : Ref sig .tc := ⟨.hbm, 1695, rfl⟩
abbrev main_call6_call5_v84 : Ref sig .tc := ⟨.hbm, 1696, rfl⟩
abbrev main_call6_call5_v85 : Ref sig .tc := ⟨.hbm, 1697, rfl⟩
abbrev main_call6_call5_v86 : Ref sig .tc := ⟨.hbm, 1698, rfl⟩
abbrev main_call6_call5_v87 : Ref sig .tc := ⟨.hbm, 1699, rfl⟩
abbrev main_call6_call5_v88 : Ref sig .tc := ⟨.hbm, 1700, rfl⟩
abbrev main_call6_call5_c_22 : Ref sig .tc := ⟨.hbm, 1701, rfl⟩
abbrev main_call6_call5_v89 : Ref sig .tc := ⟨.hbm, 1702, rfl⟩
abbrev main_call6_call5_v90 : Ref sig .tc := ⟨.hbm, 1703, rfl⟩
abbrev main_call6_call5_c_23 : Ref sig .tc := ⟨.hbm, 1704, rfl⟩
abbrev main_call6_call5_v91 : Ref sig .tc := ⟨.hbm, 1705, rfl⟩
abbrev main_call6_call5_v92 : Ref sig .tc := ⟨.hbm, 1706, rfl⟩
abbrev main_call6_call5_v93 : Ref sig .tc := ⟨.hbm, 1707, rfl⟩
abbrev main_call6_call5_v94 : Ref sig .tc := ⟨.hbm, 1708, rfl⟩
abbrev main_call6_call5_v95 : Ref sig .tc := ⟨.hbm, 1709, rfl⟩
abbrev main_call6_call5_c_24 : Ref sig .tc := ⟨.hbm, 1710, rfl⟩
abbrev main_call6_call5_v96 : Ref sig .tc := ⟨.hbm, 1711, rfl⟩
abbrev main_call6_call5_v97 : Ref sig .tc := ⟨.hbm, 1712, rfl⟩
abbrev main_call6_call5_c_25 : Ref sig .tc := ⟨.hbm, 1713, rfl⟩
abbrev main_call6_call5_v98 : Ref sig .tc := ⟨.hbm, 1714, rfl⟩
abbrev main_call6_call5_v99 : Ref sig .tc := ⟨.hbm, 1715, rfl⟩
abbrev main_call6_call5_v100 : Ref sig .tc := ⟨.hbm, 1716, rfl⟩
abbrev main_call6_call5_v101 : Ref sig .tc := ⟨.hbm, 1717, rfl⟩
abbrev main_call6_call5_v102 : Ref sig .tc := ⟨.hbm, 1718, rfl⟩
abbrev main_call6_call5_v103 : Ref sig .tc := ⟨.hbm, 1719, rfl⟩
abbrev main_call6_call5_v104 : Ref sig .tc := ⟨.hbm, 1720, rfl⟩
abbrev main_call6_call5_v105 : Ref sig .tc := ⟨.hbm, 1721, rfl⟩
abbrev main_call6_call5_c_26 : Ref sig .tc := ⟨.hbm, 1722, rfl⟩
abbrev main_call6_call5_v106 : Ref sig .tc := ⟨.hbm, 1723, rfl⟩
abbrev main_call6_call5_v107 : Ref sig .tc := ⟨.hbm, 1724, rfl⟩
abbrev main_call6_call5_v108 : Ref sig .tc := ⟨.hbm, 1725, rfl⟩
abbrev main_call6_call5_c_27 : Ref sig .tc := ⟨.hbm, 1726, rfl⟩
abbrev main_call6_call5_v109 : Ref sig .tc := ⟨.hbm, 1727, rfl⟩
abbrev main_call6_call5_v110 : Ref sig .tc := ⟨.hbm, 1728, rfl⟩
abbrev main_call6_call5_c_28 : Ref sig .tc := ⟨.hbm, 1729, rfl⟩
abbrev main_call6_call5_v111 : Ref sig .tc := ⟨.hbm, 1730, rfl⟩
abbrev main_call6_call5_v112 : Ref sig .tc := ⟨.hbm, 1731, rfl⟩
abbrev main_call6_call5_v113 : Ref sig .tc := ⟨.hbm, 1732, rfl⟩
abbrev main_call6_call5_v114 : Ref sig .tc := ⟨.hbm, 1733, rfl⟩
abbrev main_call6_call5_v115 : Ref sig .tc := ⟨.hbm, 1734, rfl⟩
abbrev main_call6_call5_c_29 : Ref sig .tc := ⟨.hbm, 1735, rfl⟩
abbrev main_call6_call5_v116 : Ref sig .tc := ⟨.hbm, 1736, rfl⟩
abbrev main_call6_call5_v117 : Ref sig .tc := ⟨.hbm, 1737, rfl⟩
abbrev main_call6_call5_c_30 : Ref sig .tc := ⟨.hbm, 1738, rfl⟩
abbrev main_call6_call5_v118 : Ref sig .tc := ⟨.hbm, 1739, rfl⟩
abbrev main_call6_call5_v119 : Ref sig .tc := ⟨.hbm, 1740, rfl⟩
abbrev main_call6_call5_v120 : Ref sig .tc := ⟨.hbm, 1741, rfl⟩
abbrev main_call6_call5_v121 : Ref sig .tc := ⟨.hbm, 1742, rfl⟩
abbrev main_call6_call5_v122 : Ref sig .tc := ⟨.hbm, 1743, rfl⟩
abbrev main_call6_call5_c_31 : Ref sig .tc := ⟨.hbm, 1744, rfl⟩
abbrev main_call6_call5_v123 : Ref sig .tc := ⟨.hbm, 1745, rfl⟩
abbrev main_call6_call5_v124 : Ref sig .tc := ⟨.hbm, 1746, rfl⟩
abbrev main_call6_call5_c_32 : Ref sig .tc := ⟨.hbm, 1747, rfl⟩
abbrev main_call6_call5_v125 : Ref sig .tc := ⟨.hbm, 1748, rfl⟩
abbrev main_call6_call5_v126 : Ref sig .tc := ⟨.hbm, 1749, rfl⟩
abbrev main_call6_call5_v127 : Ref sig .tc := ⟨.hbm, 1750, rfl⟩
abbrev main_call6_call5_v128 : Ref sig .tc := ⟨.hbm, 1751, rfl⟩
abbrev main_call6_call5_v129 : Ref sig .tc := ⟨.hbm, 1752, rfl⟩
abbrev main_call6_call5_c_33 : Ref sig .tc := ⟨.hbm, 1753, rfl⟩
abbrev main_call6_call5_v130 : Ref sig .tc := ⟨.hbm, 1754, rfl⟩
abbrev main_call6_call5_v131 : Ref sig .tc := ⟨.hbm, 1755, rfl⟩
abbrev main_call6_call5_c_34 : Ref sig .tc := ⟨.hbm, 1756, rfl⟩
abbrev main_call6_call5_v132 : Ref sig .tc := ⟨.hbm, 1757, rfl⟩
abbrev main_call6_call5_v133 : Ref sig .tc := ⟨.hbm, 1758, rfl⟩
abbrev main_call6_call5_v134 : Ref sig .tc := ⟨.hbm, 1759, rfl⟩
abbrev main_call6_call5_v135 : Ref sig .tc := ⟨.hbm, 1760, rfl⟩
abbrev main_call6_call5_v136 : Ref sig .tc := ⟨.hbm, 1761, rfl⟩
abbrev main_call6_call5_v137 : Ref sig .tc := ⟨.hbm, 1762, rfl⟩
abbrev main_call6_call5_v138 : Ref sig .tc := ⟨.hbm, 1763, rfl⟩
abbrev main_call6_call5_v139 : Ref sig .tc := ⟨.hbm, 1764, rfl⟩
abbrev main_call6_call5_c_35 : Ref sig .tc := ⟨.hbm, 1765, rfl⟩
abbrev main_call6_call5_v140 : Ref sig .tc := ⟨.hbm, 1766, rfl⟩
abbrev main_call6_call5_v141 : Ref sig .tc := ⟨.hbm, 1767, rfl⟩
abbrev main_call6_call5_v142 : Ref sig .tc := ⟨.hbm, 1768, rfl⟩
abbrev main_call6_call5_c_36 : Ref sig .tc := ⟨.hbm, 1769, rfl⟩
abbrev main_call6_call5_v143 : Ref sig .tc := ⟨.hbm, 1770, rfl⟩
abbrev main_call6_call5_v144 : Ref sig .tc := ⟨.hbm, 1771, rfl⟩
abbrev main_call6_call5_c_37 : Ref sig .tc := ⟨.hbm, 1772, rfl⟩
abbrev main_call6_call5_v145 : Ref sig .tc := ⟨.hbm, 1773, rfl⟩
abbrev main_call6_call5_v146 : Ref sig .tc := ⟨.hbm, 1774, rfl⟩
abbrev main_call6_call5_v147 : Ref sig .tc := ⟨.hbm, 1775, rfl⟩
abbrev main_call6_call5_v148 : Ref sig .tc := ⟨.hbm, 1776, rfl⟩
abbrev main_call6_call5_v149 : Ref sig .tc := ⟨.hbm, 1777, rfl⟩
abbrev main_call6_call5_c_38 : Ref sig .tc := ⟨.hbm, 1778, rfl⟩
abbrev main_call6_call5_v150 : Ref sig .tc := ⟨.hbm, 1779, rfl⟩
abbrev main_call6_call5_v151 : Ref sig .tc := ⟨.hbm, 1780, rfl⟩
abbrev main_call6_call5_c_39 : Ref sig .tc := ⟨.hbm, 1781, rfl⟩
abbrev main_call6_call5_v152 : Ref sig .tc := ⟨.hbm, 1782, rfl⟩
abbrev main_call6_call5_v153 : Ref sig .tc := ⟨.hbm, 1783, rfl⟩
abbrev main_call6_call5_v154 : Ref sig .tc := ⟨.hbm, 1784, rfl⟩
abbrev main_call6_call5_v155 : Ref sig .tc := ⟨.hbm, 1785, rfl⟩
abbrev main_call6_call5_v156 : Ref sig .tc := ⟨.hbm, 1786, rfl⟩
abbrev main_call6_call5_c_40 : Ref sig .tc := ⟨.hbm, 1787, rfl⟩
abbrev main_call6_call5_v157 : Ref sig .tc := ⟨.hbm, 1788, rfl⟩
abbrev main_call6_call5_v158 : Ref sig .tc := ⟨.hbm, 1789, rfl⟩
abbrev main_call6_call5_c_41 : Ref sig .tc := ⟨.hbm, 1790, rfl⟩
abbrev main_call6_call5_v159 : Ref sig .tc := ⟨.hbm, 1791, rfl⟩
abbrev main_call6_call5_v160 : Ref sig .tc := ⟨.hbm, 1792, rfl⟩
abbrev main_call6_call5_v161 : Ref sig .tc := ⟨.hbm, 1793, rfl⟩
abbrev main_call6_call5_v162 : Ref sig .tc := ⟨.hbm, 1794, rfl⟩
abbrev main_call6_call5_v163 : Ref sig .tc := ⟨.hbm, 1795, rfl⟩
abbrev main_call6_call5_c_42 : Ref sig .tc := ⟨.hbm, 1796, rfl⟩
abbrev main_call6_call5_v164 : Ref sig .tc := ⟨.hbm, 1797, rfl⟩
abbrev main_call6_call5_v165 : Ref sig .tc := ⟨.hbm, 1798, rfl⟩
abbrev main_call6_call5_c_43 : Ref sig .tc := ⟨.hbm, 1799, rfl⟩
abbrev main_call6_call5_v166 : Ref sig .tc := ⟨.hbm, 1800, rfl⟩
abbrev main_call6_call5_v167 : Ref sig .tc := ⟨.hbm, 1801, rfl⟩
abbrev main_call6_call5_v168 : Ref sig .tc := ⟨.hbm, 1802, rfl⟩
abbrev main_call6_call5_v169 : Ref sig .tc := ⟨.hbm, 1803, rfl⟩
abbrev main_call6_call5_v170 : Ref sig .tc := ⟨.hbm, 1804, rfl⟩
abbrev main_call6_v45_0 : Ref sig .tc := ⟨.hbm, 1805, rfl⟩
abbrev main_call6_call5_v172 : Ref sig .tc := ⟨.hbm, 1806, rfl⟩
abbrev main_call6_call5_v173 : Ref sig .tc := ⟨.hbm, 1807, rfl⟩
abbrev main_call6_call5_c_44 : Ref sig .tc := ⟨.hbm, 1808, rfl⟩
abbrev main_call6_call5_v174 : Ref sig .tc := ⟨.hbm, 1809, rfl⟩
abbrev main_call6_v45_1 : Ref sig .tc := ⟨.hbm, 1810, rfl⟩
abbrev main_call6_v46 : Ref sig .tc := ⟨.hbm, 1811, rfl⟩
abbrev main_call6_v47 : Ref sig .tc := ⟨.hbm, 1812, rfl⟩
abbrev main_call6_v48 : Ref sig .tc := ⟨.hbm, 1813, rfl⟩
abbrev main_call6_v49 : Ref sig .tc := ⟨.hbm, 1814, rfl⟩
abbrev main_call6_c_12 : Ref sig .tc := ⟨.hbm, 1815, rfl⟩
abbrev main_call6_v50 : Ref sig .tc := ⟨.hbm, 1816, rfl⟩
abbrev main_call6_v51 : Ref sig .tc := ⟨.hbm, 1817, rfl⟩
abbrev main_call6_v52 : Ref sig .tc := ⟨.hbm, 1818, rfl⟩
abbrev main_call6_v53 : Ref sig .tc := ⟨.hbm, 1819, rfl⟩
abbrev main_call6_v54 : Ref sig .tc := ⟨.hbm, 1820, rfl⟩
abbrev main_call6_c_13 : Ref sig .tc := ⟨.hbm, 1821, rfl⟩
abbrev main_call6_v55 : Ref sig .tc := ⟨.hbm, 1822, rfl⟩
abbrev main_call6_v56 : Ref sig .tc := ⟨.hbm, 1823, rfl⟩
abbrev main_call6_v57 : Ref sig .tc := ⟨.hbm, 1824, rfl⟩
abbrev main_call6_c_14 : Ref sig .tc := ⟨.hbm, 1825, rfl⟩
abbrev main_call6_v58 : Ref sig .tc := ⟨.hbm, 1826, rfl⟩
abbrev main_call6_v59 : Ref sig .tc := ⟨.hbm, 1827, rfl⟩
abbrev main_call6_v60 : Ref sig .tc := ⟨.hbm, 1828, rfl⟩
abbrev main_call6_v61 : Ref sig .tc := ⟨.hbm, 1829, rfl⟩
abbrev main_call6_v62 : Ref sig .tc := ⟨.hbm, 1830, rfl⟩
abbrev main_call6_v63 : Ref sig .tc := ⟨.hbm, 1831, rfl⟩
abbrev main_call6_v64 : Ref sig .tc := ⟨.hbm, 1832, rfl⟩
abbrev main_call6_v65 : Ref sig .tc := ⟨.hbm, 1833, rfl⟩
abbrev main_call6_v66 : Ref sig .tc := ⟨.hbm, 1834, rfl⟩
abbrev main_call6_v67 : Ref sig .tc := ⟨.hbm, 1835, rfl⟩
abbrev main_call6_v68 : Ref sig .tc := ⟨.hbm, 1836, rfl⟩
abbrev main_call6_v69 : Ref sig .tc := ⟨.hbm, 1837, rfl⟩
abbrev main_call6_v70 : Ref sig .tc := ⟨.hbm, 1838, rfl⟩
abbrev main_call6_v71 : Ref sig .tc := ⟨.hbm, 1839, rfl⟩
abbrev main_call6_v72 : Ref sig .tc := ⟨.hbm, 1840, rfl⟩
abbrev main_v25 : Ref sig .tc := ⟨.hbm, 1841, rfl⟩
abbrev main_v26 : Ref sig .tc := ⟨.hbm, 1842, rfl⟩

abbrev nD : Nat := 1
abbrev τ : Topo := Topo.v7x

variable {F : FTy → Type} [FloatOps F]
-- ==== Proof.KernelIdealRun.lean ====
/- The run of `KernelIdeal`: @main is two pallas_calls, the table of random words (16 points of 8 rows) and the select
   (2 points of 64 rows). Per region: what the body leaves in each output block, the body's triple, the pipeline's
   proof data. Then the buffers' contents at each boundary (`W0` at launch, `W1` after the table, `W2` after the
   select), the two region segments, and the run from the launch to the return. It follows the shape of the frame
   module generated for this program, which states only the arguments: here the final contents of every buffer are
   kept, so that the values can be read from them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__rng_word_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S8x8192 := Rect.unit (s := S8x8192) ![0, 0] S8x8192.size inb_S8x8192_S8x8192_0_0

/-! ## What the body leaves in each output window's buffer -/

/-! ### Values of the body that the stores' payloads, spelt out, would write more than once

    Each is a vector the body binds (often a part call's result), stated over the input windows' blocks and
    numbered on from the skeleton's payload functions (`k0_pay204` …, after `k0_pay203`), so that
    `out0_W` and the values after it name it instead of spelling it out (`unfold_out out0_W` opens a canon
    with them, `unfold_payloads` opens them with the payloads); the comment after each is the printed function's
    name for the value (a count appended where that name is bound again). -/

def k0_pay204 (i : grid0.Coords)  : IVec S8x8192 32 :=
  k0_pay2 i -- `v7`
def k0_pay205 (i : grid0.Coords)  : IVec S8x8192 32 :=
  k0_pay11 i -- `v40`
def k0_pay206 (i : grid0.Coords)  : IVec S8x8192 32 :=
  k0_pay12 i -- `v42`
def k0_pay207 (i : grid0.Coords)  : IVec S8x8192 32 :=
  k0_pay13 -- `v43`
def k0_pay208 (i : grid0.Coords)  : IVec S8x8192 32 :=
  k0_pay24 (k0_pay205 i) (k0_pay206 i) (k0_pay207 i) -- `v85`
def k0_pay209 (i : grid0.Coords)  : IVec S8x8192 32 :=
  k0_pay25 (k0_pay205 i) (k0_pay206 i) (k0_pay207 i) -- `v86`
def k0_pay210 (i : grid0.Coords)  : IVec S8x8192 32 :=
  k0_pay26 (k0_pay205 i) (k0_pay206 i) (k0_pay207 i) -- `v88`
def k0_pay211 (i : grid0.Coords)  : IVec S8x8192 32 :=
  k0_pay37 (k0_pay208 i) (k0_pay209 i) (k0_pay210 i) 17#32 -- `v133`
def k0_pay212 (i : grid0.Coords)  : IVec S8x8192 32 :=
  k0_pay38 (k0_pay208 i) (k0_pay209 i) (k0_pay210 i) 17#32 -- `v134`
def k0_pay213 (i : grid0.Coords)  : IVec S8x8192 1 :=
  k0_pay50 (k0_pay47 (k0_pay211 i) (k0_pay212 i) 24#32) (k0_pay48 (k0_pay211 i) (k0_pay212 i) 24#32) k0_pay49 -- `v185`
def k0_pay214 (i : grid0.Coords)  : IVec S8x8192 32 :=
  k0_pay59 (k0_pay204 i) -- `v222`
def k0_pay215 (i : grid0.Coords)  : IVec S8x8192 32 :=
  k0_pay60 (k0_pay204 i) -- `v223`
def k0_pay216 (i : grid0.Coords)  : IVec S8x8192 32 :=
  k0_pay70 (k0_pay214 i) (k0_pay215 i) 17#32 -- `v264`
def k0_pay217 (i : grid0.Coords)  : IVec S8x8192 32 :=
  k0_pay71 (k0_pay214 i) (k0_pay215 i) 17#32 -- `v269`
def k0_pay218 (i : grid0.Coords)  : IVec S8x8192 1 :=
  k0_pay86 (k0_pay213 i) (k0_pay85 (k0_pay82 (k0_pay216 i) (k0_pay217 i)) (k0_pay83 (k0_pay216 i) (k0_pay217 i)) (k0_pay84 (k0_pay216 i) (k0_pay217 i)) 8#32) 9#32 -- `v364`
def k0_pay219 (i : grid0.Coords)  : IVec S8x8192 32 :=
  k0_pay95 (k0_pay204 i) -- `v401`
def k0_pay220 (i : grid0.Coords)  : IVec S8x8192 32 :=
  k0_pay96 (k0_pay204 i) -- `v402`
def k0_pay221 (i : grid0.Coords)  : IVec S8x8192 32 :=
  k0_pay97 (k0_pay204 i) -- `v404`
def k0_pay222 (i : grid0.Coords)  : IVec S8x8192 32 :=
  k0_pay108 (k0_pay219 i) (k0_pay220 i) (k0_pay221 i) -- `v449`
def k0_pay223 (i : grid0.Coords)  : IVec S8x8192 32 :=
  k0_pay109 (k0_pay219 i) (k0_pay220 i) (k0_pay221 i) -- `v450`
def k0_pay224 (i : grid0.Coords)  : IVec S8x8192 32 :=
  k0_pay132 (k0_pay204 i) -- `v582`
def k0_pay225 (i : grid0.Coords)  : IVec S8x8192 32 :=
  k0_pay133 (k0_pay204 i) -- `v583`
def k0_pay226 (i : grid0.Coords)  : IVec S8x8192 32 :=
  k0_pay134 -- `v584`
def k0_pay227 (i : grid0.Coords)  : IVec S8x8192 32 :=
  k0_pay144 (k0_pay224 i) (k0_pay225 i) (k0_pay226 i) -- `v624`
def k0_pay228 (i : grid0.Coords)  : IVec S8x8192 32 :=
  k0_pay145 (k0_pay224 i) (k0_pay225 i) (k0_pay226 i) -- `v630`
def k0_pay229 (i : grid0.Coords)  : IVec S8x8192 32 :=
  k0_pay161 (F := F) (k0_pay159 (k0_pay155 (k0_pay227 i) (k0_pay228 i)) (k0_pay156 (k0_pay227 i) (k0_pay228 i)) (k0_pay157 (k0_pay227 i) (k0_pay228 i)) k0_pay158) k0_pay160 -- `v759`
def k0_pay230 (i : grid0.Coords)  : IVec S8x8192 32 :=
  k0_pay162 (k0_pay204 i) -- `v762`
def k0_pay231 (i : grid0.Coords)  : IVec S8x8192 32 :=
  k0_pay163 (k0_pay204 i) -- `v763`
def k0_pay232 (i : grid0.Coords)  : IVec S8x8192 32 :=
  k0_pay173 (k0_pay230 i) (k0_pay231 i) -- `v804`
def k0_pay233 (i : grid0.Coords)  : IVec S8x8192 32 :=
  k0_pay174 (k0_pay230 i) (k0_pay231 i) -- `v806`
def k0_pay234 (i : grid0.Coords)  : IVec S8x8192 32 :=
  k0_pay175 (k0_pay230 i) (k0_pay231 i) -- `v808`
def k0_pay235 (i : grid0.Coords)  : IVec S8x8192 32 :=
  k0_pay186 (k0_pay232 i) (k0_pay233 i) (k0_pay234 i) -- `v851`
def k0_pay236 (i : grid0.Coords)  : IVec S8x8192 32 :=
  k0_pay187 (k0_pay232 i) (k0_pay233 i) (k0_pay234 i) -- `v852`
def k0_pay237 (i : grid0.Coords)  : IVec S8x8192 32 :=
  k0_pay188 (k0_pay232 i) (k0_pay233 i) (k0_pay234 i) -- `v854`
def k0_pay238 (i : grid0.Coords)  : IVec S8x8192 32 :=
  k0_pay197 (k0_pay235 i) (k0_pay236 i) (k0_pay237 i) -- `v898`
def k0_pay239 (i : grid0.Coords)  : IVec S8x8192 32 :=
  k0_pay198 (k0_pay235 i) (k0_pay236 i) (k0_pay237 i) -- `v899`
def k0_pay240 (i : grid0.Coords)  : IVec S8x8192 32 :=
  k0_pay199 (k0_pay238 i) (k0_pay239 i) -- `v940`
def k0_pay241 (i : grid0.Coords)  : IVec S8x8192 32 :=
  k0_pay200 (k0_pay238 i) (k0_pay239 i) -- `v942`
def k0_pay242 (i : grid0.Coords)  : IVec S8x8192 32 :=
  k0_pay201 -- `v943`

/-- Window 0's staging buffer after the body, from the input windows' blocks: its 1 store as pieces, LAST
    FIRST (Lib/Pipeline/FrameBody.lean `View.canon`; the payloads are the skeleton's and the values stated above). -/
def out0_0 (i : grid0.Coords)  : Vec F S8x8192 .i16 :=
  View.canon [⟨r0_0, k0_pay1 (k0_pay213 i) (k0_pay218 i) (k0_pay123 (k0_pay213 i) (k0_pay218 i) (k0_pay122 (k0_pay119 (k0_pay222 i) (k0_pay223 i)) (k0_pay120 (k0_pay222 i) (k0_pay223 i)) (k0_pay121 (k0_pay222 i) (k0_pay223 i)))) (k0_pay202 (F := F) (k0_pay229 i (F := F)) (k0_pay240 i) (k0_pay241 i) (k0_pay242 i)) (k0_pay203 (F := F) (k0_pay229 i (F := F)) (k0_pay240 i) (k0_pay241 i) (k0_pay242 i)) (Scalar.ofBits .f32 0x3F000000#32)⟩]

/-- Its stores tile the buffer (checked by evaluation), so they cover it. -/
theorem cover0_0 (p0 : Vec F S8x8192 .i16) (y : S8x8192.Idx) :
    ∃ pc ∈ ([⟨r0_0, p0⟩] : List (View.Piece (Elt F) S8x8192 .i16)), y ∈ pc.1.set :=
  View.cover_of_tiled [⟨r0_0, p0⟩] S8x8192.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S8x8192 .i16) (harg1 : arg1.IsWhole)
     (K : PUnit → sProp 𝕄) :
    iprop((∃ d, owns (c : Thread nD τ) arg1 fullShare d)
        ∗ (iprop(owns (c : Thread nD τ) arg1 fullShare (out0_0 i )) -∗ K ⟨⟩))
      ⊢ wp frame (wpE (defs₀ (F := F)) Variants.none c none) E (cc0__rng_word_body i arg1 harg1) K := by
  simp only [cc0__rng_word_body_eq_skeleton]; unfold cc0__rng_word_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%d0, %f0, -, H0⟩, Hk⟩
  sl_exec
  sl_step
  iapply Hk
  iexists _; isplitr
  swap; · iexact H0
  ipureintro
  refine (View.read_writes_eq_canon _ _ _ (cover0_0 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => out0_0 (grid0.coords t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = out0_0 (grid0.coords t)  := by dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩⟩
  iapply (sound_kernel0 c Set.univ (grid0.coords t) _ _  _)
  isplitl [H0]; · iexists _; iexact H0
  iintro ⟨H0⟩
  isplitl [HΦ]; · iexact HΦ
  isplitl [Ho]; · iexact Ho
  iexact H0

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__select_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S64x8192 := Rect.unit (s := S64x8192) ![0, 0] S64x8192.size inb_S64x8192_S64x8192_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S64x8192 .i32) (x1 : Vec F S64x8192 .i16) : Vec F S64x8192 .i32 :=
  View.canon [⟨r1_0, k1_pay3 (View.ld x0 r1_0) (View.ld x1 r1_0)⟩]

/-- Its stores tile the buffer (checked by evaluation), so they cover it. -/
theorem cover1_2 (p0 : Vec F S64x8192 .i32) (y : S64x8192.Idx) :
    ∃ pc ∈ ([⟨r1_0, p0⟩] : List (View.Piece (Elt F) S64x8192 .i32)), y ∈ pc.1.set :=
  View.cover_of_tiled [⟨r1_0, p0⟩] S64x8192.size (by rfl) y

/-- Window 3's staging buffer after the body, from the input windows' blocks: its 1 store as pieces, LAST
    FIRST (Lib/Pipeline/FrameBody.lean `View.canon`; the payloads are the skeleton's). -/
def out1_3 (x0 : Vec F S64x8192 .i32) (x1 : Vec F S64x8192 .i16) : Vec F S64x8192 .i32 :=
  View.canon [⟨r1_0, k1_pay2 (View.ld x0 r1_0) (View.ld x1 r1_0)⟩]

/-- Its stores tile the buffer (checked by evaluation), so they cover it. -/
theorem cover1_3 (p0 : Vec F S64x8192 .i32) (y : S64x8192.Idx) :
    ∃ pc ∈ ([⟨r1_0, p0⟩] : List (View.Piece (Elt F) S64x8192 .i32)), y ∈ pc.1.set :=
  View.cover_of_tiled [⟨r1_0, p0⟩] S64x8192.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S64x8192 .i32) (harg1 : arg1.IsWhole) (arg2 : Memref sig .tc .vmem S64x8192 .i16) (harg2 : arg2.IsWhole) (arg3 : Memref sig .tc .vmem S64x8192 .i32) (harg3 : arg3.IsWhole) (arg4 : Memref sig .tc .vmem S64x8192 .i32) (harg4 : arg4.IsWhole)
    (x0 : Vec F S64x8192 .i32) (x1 : Vec F S64x8192 .i16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__select_body i arg1 harg1 arg2 harg2 arg3 harg3 arg4 harg4) K := by
  simp only [cc1__select_body_eq_skeleton]; unfold cc1__select_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting; every final state has each unscoped buffer at the last boundary's
    contents `W2` and every semaphore counter of the machine at zero. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W2 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- THE FRAME: the run, read at the argument array, which ends as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c _ (mem_uc main_arg0 (by decide))).trans (W2_main_arg0 m ρ c), h.2⟩) (run m ρ)

end Cert.KernelIdeal.Run

end
-- ==== Proof.Lines.lean ====
/- Straight lines of host operations read as equations. A program of host operations whose every operation writes a
   buffer of a higher number than all it reads, and than all written before, ends in contents that every one of its
   operations leaves as they are (`Chain.fixed`): each buffer holds the operation's function of what its operands hold
   at the END, so a run is read off as one equation per line, in any order, a called function's lines once for all its
   calls. -/
module

public import Idealize.ShloMosaic.Lib.StableHlo.RunHlo

@[expose] public section

namespace Cert.Lines

open Idealize.ShloMosaic Idealize.SL.Sem Idealize.ShloMosaic.StableHlo

variable {nD : Nat} {τ : Topo} {sig : RefSig} {Val : EltTy → Type} {Λ : Labels}

/-- A device buffer's number: its index in its table. -/
def num (b : DevRef τ sig) : ℕ := b.idx.val

/-- A TensorCore reference's number. -/
abbrev rnum (r : Ref sig .tc) : ℕ := r.idx.val

/-- A reference's number is its place among the buffers. -/
theorem num_devRef (r : Ref sig .tc) : num (Proc.devRef (τ := τ) .tc r) = rnum r := rfl

/-- The operation writes buffers of number `k` only, at a function of the buffers of smaller number. -/
structure Step (op : HloOp τ sig Val) (k : ℕ) : Prop where
  fresh : op.fresh = ∅
  sub : op.bufs ⊆ tcRefs τ sig
  out : ∀ b ∈ op.writes, num b = k
  ins : ∀ F G : Valuation τ sig Val, (∀ b, num b < k → F b = G b) → ∀ b ∈ op.writes, op.result F b = op.result G b

section Builders

variable (x a b c y : Ref sig .tc)

/-- A constant's line writes its buffer alone. -/
theorem step_nullary (v : y.ty.Contents Val) (hy) : Step (nullary (τ := τ) y v hy) (rnum y) where
  fresh := rfl
  sub := nullary_bufs_sub ..
  out b hb := by cases Finset.mem_singleton.mp hb; rfl
  ins F G _ b hb := by
    cases Finset.mem_singleton.mp hb
    exact (nullary_result y v hy F).trans (nullary_result y v hy G).symm

/-- A line of one operand reads a buffer below the one it writes. -/
theorem step_unary (f : x.ty.Contents Val → y.ty.Contents Val) (hx hy) (h : rnum x < rnum y) :
    Step (unary (τ := τ) x y f hx hy) (rnum y) where
  fresh := rfl
  sub := unary_bufs_sub ..
  out b hb := by cases Finset.mem_singleton.mp hb; rfl
  ins F G hFG b hb := by
    cases Finset.mem_singleton.mp hb
    rw [unary_result x y f hx hy F, unary_result x y f hx hy G, hFG (Proc.devRef .tc x) h]

/-- A line of two operands. -/
theorem step_binary (f : a.ty.Contents Val → b.ty.Contents Val → y.ty.Contents Val) (ha hb hy)
    (h : rnum a < rnum y) (h' : rnum b < rnum y) : Step (binary (τ := τ) a b y f ha hb hy) (rnum y) where
  fresh := rfl
  sub := binary_bufs_sub ..
  out b hb := by cases Finset.mem_singleton.mp hb; rfl
  ins F G hFG d hd := by
    cases Finset.mem_singleton.mp hd
    rw [binary_result a b y f ha hb hy F, binary_result a b y f ha hb hy G,
      hFG (Proc.devRef .tc a) h, hFG (Proc.devRef .tc b) h']

/-- A line of three operands. -/
theorem step_ternary (f : c.ty.Contents Val → a.ty.Contents Val → b.ty.Contents Val → y.ty.Contents Val) (hc ha hb hy)
    (h₀ : rnum c < rnum y) (h : rnum a < rnum y) (h' : rnum b < rnum y) :
    Step (ternary (τ := τ) c a b y f hc ha hb hy) (rnum y) where
  fresh := rfl
  sub := ternary_bufs_sub ..
  out b hb := by cases Finset.mem_singleton.mp hb; rfl
  ins F G hFG d hd := by
    cases Finset.mem_singleton.mp hd
    rw [ternary_result c a b y f hc ha hb hy F, ternary_result c a b y f hc ha hb hy G,
      hFG (Proc.devRef .tc c) h₀, hFG (Proc.devRef .tc a) h, hFG (Proc.devRef .tc b) h']

/-- A reshape's line. -/
theorem step_reshape (he hn hx hy) (h : rnum x < rnum y) :
    Step (reshape (τ := τ) (Val := Val) x y he hn hx hy) (rnum y) where
  fresh := rfl
  sub := reshape_bufs_sub ..
  out b hb := by cases Finset.mem_singleton.mp hb; rfl
  ins F G hFG b hb := by
    cases Finset.mem_singleton.mp hb
    rw [reshape_result x y he hn hx hy F, reshape_result x y he hn hx hy G, hFG (Proc.devRef .tc x) h]

end Builders

/-- The line's operations write buffers of ascending numbers, from `lo` on and below `hi`. -/
def Asc : ℕ → List (HloOp τ sig Val) → ℕ → Prop
  | lo, [], hi => lo ≤ hi
  | lo, op :: ops, hi => ∃ k, lo ≤ k ∧ Step op k ∧ Asc (k + 1) ops hi

/-- Two ascending lists one after the other. -/
theorem Asc.append {l₂ : List (HloOp τ sig Val)} {mid hi : ℕ} (h₂ : Asc mid l₂ hi) :
    ∀ {l₁ : List (HloOp τ sig Val)} {lo : ℕ}, Asc lo l₁ mid → Asc lo (l₁ ++ l₂) hi
  | [], lo, h => by
    cases l₂ with
    | nil => exact Nat.le_trans h h₂
    | cons op l => exact ⟨h₂.choose, Nat.le_trans h h₂.choose_spec.1, h₂.choose_spec.2⟩
  | _ :: _, _, ⟨k, hk, hs, h⟩ => ⟨k, hk, hs, Asc.append h₂ h⟩

/-- A buffer of a number below the line's is left as it was. -/
theorem Asc.after_low : ∀ {ops : List (HloOp τ sig Val)} {lo hi : ℕ}, Asc lo ops hi → ∀ (V : Valuation τ sig Val) (b),
    num b < lo → after ops V b = V b
  | [], _, _, _, _, _, _ => rfl
  | op :: ops, lo, hi, ⟨k, hk, hs, h⟩, V, b, hb => by
    rw [after_cons, h.after_low _ b (by omega), op.result_of_not_mem V fun hm => by have := hs.out b hm; omega]

/-- Every operation of an ascending line leaves the line's final contents as they are. -/
theorem Asc.fixed : ∀ {ops : List (HloOp τ sig Val)} {lo hi : ℕ}, Asc lo ops hi → ∀ (V : Valuation τ sig Val),
    ∀ op ∈ ops, ∀ b, op.result (after ops V) b = after ops V b
  | [], _, _, _, _, _, h, _ => by cases h
  | op :: ops, lo, hi, ⟨k, hk, hs, h⟩, V, o, ho, b => by
    rcases List.mem_cons.mp ho with rfl | ho
    · by_cases hb : b ∈ o.writes
      · rw [after_cons, h.after_low _ b (by have := hs.out b hb; omega)]
        refine hs.ins _ _ (fun c hc => ?_) b hb
        rw [h.after_low _ c (by omega), o.result_of_not_mem V fun hm => by have := hs.out c hm; omega]
      · exact o.result_of_not_mem _ hb
    · exact h.fixed _ o ho b

/-- An ascending list's lines take no fresh buffer. -/
theorem Asc.fresh : ∀ {ops : List (HloOp τ sig Val)} {lo hi : ℕ}, Asc lo ops hi → ∀ op ∈ ops, op.fresh = ∅
  | _ :: _, _, _, ⟨_, _, hs, h⟩, o, ho => by
    rcases List.mem_cons.mp ho with rfl | ho
    · exact hs.fresh
    · exact h.fresh o ho

/-- An ascending list's lines stay among the core's buffers. -/
theorem Asc.sub : ∀ {ops : List (HloOp τ sig Val)} {lo hi : ℕ}, Asc lo ops hi → ∀ op ∈ ops, op.bufs ⊆ tcRefs τ sig
  | _ :: _, _, _, ⟨_, _, hs, h⟩, o, ho => by
    rcases List.mem_cons.mp ho with rfl | ho
    · exact hs.sub
    · exact h.sub o ho

/-- The programs of host operations here. -/
abbrev HProg (nD : Nat) (τ : Topo) (sig : RefSig) (Val : EltTy → Type) (Λ : Labels) := Prog (TpuEff nD τ sig Val Λ .tc) PUnit

/-- The program is a straight line of host operations, ascending from `lo` to `hi`. -/
def Chain (lo : ℕ) (p : HProg nD τ sig Val Λ) (hi : ℕ) : Prop :=
  ∃ ops : List (HloOp τ sig Val), p = seq ops ∧ Asc lo ops hi

/-- The empty program. -/
theorem Chain.ret (lo : ℕ) : Chain (nD := nD) (τ := τ) (sig := sig) (Val := Val) (Λ := Λ) lo (pure ⟨⟩) lo :=
  ⟨[], rfl, le_rfl⟩

/-- One program after another. -/
theorem Chain.bind {lo mid hi : ℕ} {p : HProg nD τ sig Val Λ} {q : PUnit → HProg nD τ sig Val Λ}
    (hp : Chain lo p mid) (hq : Chain mid (q ⟨⟩) hi) : Chain lo (p >>= q) hi := by
  obtain ⟨l₁, rfl, h₁⟩ := hp
  obtain ⟨l₂, e, h₂⟩ := hq
  exact ⟨l₁ ++ l₂, by rw [seq_append, ← e], h₂.append h₁⟩

/-- One line. -/
theorem Chain.line {lo k : ℕ} {op : HloOp τ sig Val} (hs : Step op k) (h : lo ≤ k) :
    Chain (nD := nD) (Λ := Λ) lo (hlo rfl op fun _ => .ret (⟨⟩ : PUnit)) (k + 1) :=
  ⟨[op], rfl, k, h, hs, le_rfl⟩

section Rules

variable {lo : ℕ} (x a b c y : Ref sig .tc)

/-- A constant's line. -/
theorem Chain.nullary (v : y.ty.Contents Val) (hy) (h : Nat.ble lo (rnum y) = true) :
    Chain (nD := nD) (τ := τ) (Λ := Λ) lo (hlo rfl (nullary y v hy) fun _ => .ret (⟨⟩ : PUnit)) (rnum y + 1) :=
  .line (step_nullary ..) (Nat.le_of_ble_eq_true h)

/-- A line of one operand. -/
theorem Chain.unary (f : x.ty.Contents Val → y.ty.Contents Val) (hx hy)
    (h : Nat.ble lo (rnum y) = true) (h₁ : Nat.blt (rnum x) (rnum y) = true) :
    Chain (nD := nD) (τ := τ) (Λ := Λ) lo (hlo rfl (unary x y f hx hy) fun _ => .ret (⟨⟩ : PUnit)) (rnum y + 1) :=
  .line (step_unary _ _ _ _ _ (Nat.le_of_ble_eq_true h₁)) (Nat.le_of_ble_eq_true h)

/-- A line of two operands. -/
theorem Chain.binary (f : a.ty.Contents Val → b.ty.Contents Val → y.ty.Contents Val) (ha hb hy)
    (h : Nat.ble lo (rnum y) = true)
    (h₁ : Nat.blt (rnum a) (rnum y) = true) (h₂ : Nat.blt (rnum b) (rnum y) = true) :
    Chain (nD := nD) (τ := τ) (Λ := Λ) lo (hlo rfl (binary a b y f ha hb hy) fun _ => .ret (⟨⟩ : PUnit)) (rnum y + 1) :=
  .line (step_binary _ _ _ _ _ _ _ (Nat.le_of_ble_eq_true h₁) (Nat.le_of_ble_eq_true h₂)) (Nat.le_of_ble_eq_true h)

/-- A line of three operands. -/
theorem Chain.ternary (f : c.ty.Contents Val → a.ty.Contents Val → b.ty.Contents Val → y.ty.Contents Val) (hc ha hb hy)
    (h : Nat.ble lo (rnum y) = true) (h₀ : Nat.blt (rnum c) (rnum y) = true)
    (h₁ : Nat.blt (rnum a) (rnum y) = true) (h₂ : Nat.blt (rnum b) (rnum y) = true) :
    Chain (nD := nD) (τ := τ) (Λ := Λ) lo (hlo rfl (ternary c a b y f hc ha hb hy) fun _ => .ret (⟨⟩ : PUnit)) (rnum y + 1) :=
  .line (step_ternary _ _ _ _ _ _ _ _ _ (Nat.le_of_ble_eq_true h₀) (Nat.le_of_ble_eq_true h₁) (Nat.le_of_ble_eq_true h₂))
    (Nat.le_of_ble_eq_true h)

/-- A reshape's line. -/
theorem Chain.reshape (he hn hx hy)
    (h : Nat.ble lo (rnum y) = true) (h₁ : Nat.blt (rnum x) (rnum y) = true) :
    Chain (nD := nD) (τ := τ) (Val := Val) (Λ := Λ) lo (hlo rfl (reshape x y he hn hx hy) fun _ => .ret (⟨⟩ : PUnit)) (rnum y + 1) :=
  .line (step_reshape _ _ _ _ _ _ (Nat.le_of_ble_eq_true h₁)) (Nat.le_of_ble_eq_true h)

end Rules

/-! ## The equations of a line -/

/-- What an effect of a line asks of contents `V` that the line leaves as they are, and the answer `V` gives it. -/
def ans (V : Valuation τ sig Val) {β : Type} : TpuEff nD τ sig Val Λ .tc β → Option (Prop × β)
  | .hloBegin _ op => some (∀ b, op.result V b = V b, ⟨⟩)
  | .hloEnd _ _ => some (True, fun b => V b.1)
  | _ => none

/-- Every operation of the program leaves the contents `V` as they are. -/
def Fixed (V : Valuation τ sig Val) {α : Type} : Prog (TpuEff nD τ sig Val Λ .tc) α → Prop
  | .ret _ => True
  | .op e k => match ans V e with
    | some (P, r) => P ∧ Fixed V (k r)
    | none => False

/-- The equations of two programs run one after the other. -/
theorem fixed_bind {V : Valuation τ sig Val} {p : HProg nD τ sig Val Λ} {q : PUnit → HProg nD τ sig Val Λ} :
    Fixed V (p >>= q) ↔ Fixed V p ∧ Fixed V (q ⟨⟩) := by
  induction p with
  | ret a => exact ⟨fun h => ⟨trivial, h⟩, fun h => h.2⟩
  | op e k ih =>
    simp only [Prog.bind_op, Fixed]
    cases he : ans V e with
    | none => exact ⟨fun h => h.elim, fun h => h.1.elim⟩
    | some r => exact ⟨fun h => ⟨⟨h.1, ((ih r.2).mp h.2).1⟩, ((ih r.2).mp h.2).2⟩,
        fun h => ⟨h.1.1, (ih r.2).mpr ⟨h.1.2, h.2⟩⟩⟩

/-- A line is fixed when its result is what its buffer holds. -/
theorem fixed_line {V : Valuation τ sig Val} {op : HloOp τ sig Val}
    (h : Fixed (nD := nD) (Λ := Λ) V (hlo rfl op fun _ => .ret (⟨⟩ : PUnit))) (b : DevRef τ sig) : op.result V b = V b :=
  h.1 b

/-- A list is fixed when each of its lines is. -/
theorem fixed_seq {V : Valuation τ sig Val} : ∀ {ops : List (HloOp τ sig Val)}, (∀ op ∈ ops, ∀ b, op.result V b = V b) →
    Fixed (nD := nD) (Λ := Λ) V (seq ops)
  | [], _ => trivial
  | op :: _, h => ⟨h op List.mem_cons_self, trivial, fixed_seq fun o ho => h o (List.mem_cons_of_mem _ ho)⟩

/-- What `t`'s buffer holds, at the type of the value. -/
def rd (V : Valuation τ sig Val) {T : BufTy} (t : TRef sig T) : T.Contents Val := t.ofBuf (V (Proc.devRef .tc t.ref))

/-- A reshape's result at buffers' own types is the reshape at the values' types. -/
theorem cast_shapeCast {S S' : Shape} {e : EltTy} {Tx Ty : BufTy} (hx : Tx = ⟨S, e⟩) (hy : Ty = ⟨S', e⟩)
    (v : Tx.Contents Val) (he : Tx.elt = Ty.elt) (hn : Tx.shape.ShapeCasts Ty.shape) (hn' : S.ShapeCasts S') :
    cast (congrArg (fun U : BufTy => U.Contents Val) hy) (fun i => he ▸ shapeCast Ty.shape v hn i)
      = shapeCast S' (cast (congrArg (fun U : BufTy => U.Contents Val) hx) v) hn' := by
  subst hx hy; rfl

section Reads

variable {V : Valuation τ sig Val} {Tx Ta Tb Tc Ty : BufTy} {x : TRef sig Tx} {a : TRef sig Ta} {b : TRef sig Tb}
  {c : TRef sig Tc} {y : TRef sig Ty} {q : PUnit → HProg nD τ sig Val Λ}

/-- What a fixed constant's buffer holds. -/
theorem fix_nullary {v : Ty.Contents Val}
    (h : Fixed (nD := nD) (Λ := Λ) V (hlo rfl (TRef.nullary y v) fun _ => .ret (⟨⟩ : PUnit))) : rd V y = v := by
  have := fixed_line h (Proc.devRef .tc y.ref)
  rw [nullary_result] at this
  rw [rd, ← this]; exact TRef.ofBuf_toBuf _ _

/-- What a fixed line of one operand's buffer holds. -/
theorem fix_unary {f : Tx.Contents Val → Ty.Contents Val}
    (h : Fixed (nD := nD) (Λ := Λ) V (hlo rfl (TRef.unary x y f) fun _ => .ret (⟨⟩ : PUnit))) : rd V y = f (rd V x) := by
  have := fixed_line h (Proc.devRef .tc y.ref)
  rw [unary_result] at this
  rw [rd, ← this]; exact TRef.ofBuf_toBuf _ _

/-- What a fixed line of two operands' buffer holds. -/
theorem fix_binary {f : Ta.Contents Val → Tb.Contents Val → Ty.Contents Val}
    (h : Fixed (nD := nD) (Λ := Λ) V (hlo rfl (TRef.binary a b y f) fun _ => .ret (⟨⟩ : PUnit))) :
    rd V y = f (rd V a) (rd V b) := by
  have := fixed_line h (Proc.devRef .tc y.ref)
  rw [binary_result] at this
  rw [rd, ← this]; exact TRef.ofBuf_toBuf _ _

/-- What a fixed line of three operands' buffer holds. -/
theorem fix_ternary {f : Tc.Contents Val → Ta.Contents Val → Tb.Contents Val → Ty.Contents Val}
    (h : Fixed (nD := nD) (Λ := Λ) V (hlo rfl (TRef.ternary c a b y f) fun _ => .ret (⟨⟩ : PUnit))) :
    rd V y = f (rd V c) (rd V a) (rd V b) := by
  have := fixed_line h (Proc.devRef .tc y.ref)
  rw [ternary_result] at this
  rw [rd, ← this]; exact TRef.ofBuf_toBuf _ _

/-- What a fixed reshape's buffer holds. -/
theorem fix_reshape {S S' : Shape} {e : EltTy} {x : TRef sig ⟨S, e⟩} {y : TRef sig ⟨S', e⟩} {he : e = e} {hn : S.ShapeCasts S'}
    (h : Fixed (nD := nD) (Λ := Λ) V (hlo rfl (TRef.reshape x y he hn) fun _ => .ret (⟨⟩ : PUnit))) :
    rd V y = shapeCast S' (rd V x) hn := by
  have := fixed_line h (Proc.devRef .tc y.ref)
  rw [reshape_result] at this
  rw [rd, ← this]
  exact cast_shapeCast x.ty_eq y.ty_eq _ _ _ hn

end Reads

/-- A straight ascending program's run: every buffer ends at contents that every line of the program leaves as they
    are, and the buffers of number below the first written are as launched. -/
theorem Chain.run {lo hi : ℕ} (defs : Defs nD τ sig Val Λ) (main : Dev nD → HProg nD τ sig Val Λ)
    {p : HProg nD τ sig Val Λ} (hp : ∀ d, main d = p) (hc : Chain lo p hi)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    ∃ V : Dev nD → Valuation τ sig Val, (∀ d, Fixed (V d) p)
      ∧ (∀ d (b : Ref sig .tc), rnum b < lo → V d (Proc.devRef .tc b) = m ((d.tc : Thread nD τ).loc b))
      ∧ θ_run defs (onTc (τ := τ) main) ⟨m, fun _ => 0, ρ⟩ fun r =>
        ∀ (d : Dev nD) (b : Ref sig .tc), r.2.mem ((d.tc : Thread nD τ).loc b) = V d (Proc.devRef .tc b) := by
  obtain ⟨ops, e, ha⟩ := hc
  refine ⟨fun d => after ops (launchContents m d), fun d => ?_, fun d b hb => ?_, ?_⟩
  · rw [e]; exact fixed_seq (ha.fixed _)
  · exact ha.after_low _ _ hb
  · exact run_hlo defs main (fun d => (hp d).trans e) hR hC (List.forall_iff_forall_mem.mpr ha.sub) ha.fresh m ρ

end Cert.Lines
-- ==== Proof.RefRun.lean ====
/- The reference's run: @main and the functions it calls are one straight line of host operations whose result buffers
   are numbered in order, so it ends in contents that every line leaves as they are (`run`), the argument as launched. -/
module

public import proofs.«01_k».proof.ReferenceIdeal
public import proofs.«01_k».proof.Proof.Lines
public import Idealize.ShloMosaic.Lib.Quiescent

@[expose] public section

noncomputable section

namespace Cert.ReferenceIdeal.Run

open Idealize.ShloMosaic Idealize.SL.Sem Idealize.ShloMosaic.StableHlo Cert.Lines Cert.ReferenceIdeal

variable {F : FTy → Type} [FloatOps F] [Facts]

set_option maxRecDepth 20000 in
set_option maxHeartbeats 4000000 in
/-- @main is a straight line that writes its buffers in ascending order, none of them the argument's. -/
theorem chain (d : Dev nD) : ∃ hi, Chain 1 (main (F := F) d) hi := by
  apply Exists.intro
  delta main
  beta_reduce
  repeat (with_reducible first
    | apply Chain.bind
    | apply Chain.nullary
    | apply Chain.unary
    | apply Chain.binary
    | apply Chain.ternary
    | apply Chain.reshape
    | exact Chain.ret _
    | decide +kernel
    | delta fn_threefry_split.body | delta fn_threefry2x32.body
    | delta fn_threefry2x32.body_part0 | delta fn_threefry2x32.body_part1
    | delta fn_threefry2x32.body_part2 | delta fn_threefry2x32.body_part3
    | delta fn_bernoulli.body | delta fn_uniform.body | delta fn_threefry2x32_0.body
    | delta fn_threefry2x32_0.body_part0 | delta fn_threefry2x32_0.body_part1
    | delta fn_threefry2x32_0.body_part2 | delta fn_threefry2x32_0.body_part3
    | delta fn_where.body | delta fn_where_1.body | delta fn_where_5.body
    | delta fn_randint.body | delta fn_randint.body_part0 | delta fn_randint.body_part1
    | delta fn_clip.body | delta fn_clip_2.body | delta fn_threefry_split_3.body | delta fn_threefry2x32_4.body
    | delta fn_threefry2x32_4.body_part0 | delta fn_threefry2x32_4.body_part1
    | delta fn_threefry2x32_4.body_part2 | delta fn_threefry2x32_4.body_part3)

/-- The reference's run: it ends with contents that every line leaves as they are, the argument as launched. -/
theorem run (m : (ℓ : Loc nD τ sig) → Buf (Elt F) ℓ) (ρ : Dev nD → PrngReg) :
    ∃ V : Dev nD → Valuation τ sig (Elt F), (∀ d, Fixed (V d) (main (F := F) d))
      ∧ (∀ d, V d (Proc.devRef .tc main_arg0) = m ((d.tc : Thread nD τ).loc main_arg0))
      ∧ θ_run (defs (F := F)) (onTc (τ := τ) (main (F := F))) ⟨m, fun _ => 0, ρ⟩ fun r =>
        ∀ (d : Dev nD) (b : Ref sig .tc), r.2.mem ((d.tc : Thread nD τ).loc b) = V d (Proc.devRef .tc b) := by
  obtain ⟨hi, hc⟩ := chain (F := F) 0
  obtain ⟨V, hV, hA, hR⟩ := Chain.run (defs (F := F)) (main (F := F)) (fun _ => rfl) hc (by decide) (by decide) m ρ
  exact ⟨V, hV, fun d => hA d main_arg0 (by decide), hR⟩

/-- The reference's frame: it runs to completion, its argument unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d.tc : Thread nD τ).loc main_arg0) = m ((d.tc : Thread nD τ).loc main_arg0))
        ∧ r.2.sem = fun _ => 0 := by
  obtain ⟨V, -, hA, hR⟩ := run (F := F) m ρ
  exact (θ_run _ _ _).mono (fun r h => ⟨fun d => (h d main_arg0).trans (hA d), sem_eq_zero_of_no_sems (by decide) r.2⟩) hR

end Cert.ReferenceIdeal.Run
-- ==== Proof.Threefry.lean ====
/- The counter-based generator of the random words: its rounds on one pair of words, and what a few lines of a program
   that does one round on whole arrays leave at one position. -/
module

public import proofs.«01_k».proof.Proof.Lines
public import Idealize.ShloMosaic.Lib.IdealHost

@[expose] public section

namespace Cert.Threefry

open Idealize.ShloMosaic

/-- A 32-bit word. -/
abbrev W := BitVec 32

/-- One round: add, rotate left by `r` (so right by `l = 32 - r`), and exclusive or. -/
def rnd (r l : W) (s : W × W) : W × W := (s.1 + s.2, (s.1 + s.2) ^^^ ((s.2 <<< r) ||| (s.2 >>> l)))

/-- The key words `a` and `b`, and the number `n` of the injection, added. -/
def inj (a b n : W) (s : W × W) : W × W := (s.1 + a, s.2 + b + n)

/-- Four rounds of the first rotation pattern. -/
def four (s : W × W) : W × W := rnd 6 26 (rnd 26 6 (rnd 15 17 (rnd 13 19 s)))

/-- Four rounds of the second rotation pattern. -/
def four' (s : W × W) : W × W := rnd 24 8 (rnd 16 16 (rnd 29 3 (rnd 17 15 s)))

/-- The third key word. -/
def third (k₀ k₁ : W) : W := k₀ ^^^ k₁ ^^^ 466688986

/-- The generator: twenty rounds of the pair `(x₀, x₁)` under the key `(k₀, k₁)`. -/
def tf (k₀ k₁ x₀ x₁ : W) : W × W :=
  inj (third k₀ k₁) k₀ 5 <| four <| inj k₁ (third k₀ k₁) 4 <| four' <| inj k₀ k₁ 3 <| four <|
    inj (third k₀ k₁) k₀ 2 <| four' <| inj k₁ (third k₀ k₁) 1 <| four (x₀ + k₀, x₁ + k₁)

/-- The random word of the count `n` under the key: the two words of the generator at `(0, n)`, combined. -/
def bits (k₀ k₁ n : W) : W := (tf k₀ k₁ 0 n).1 ^^^ (tf k₀ k₁ 0 n).2

end Cert.Threefry

namespace Cert.Lines

open Idealize.ShloMosaic Idealize.SL.Sem Idealize.ShloMosaic.StableHlo Cert.Threefry

variable {nD : ℕ} {τ : Topo} {sig : RefSig} {F : FTy → Type} [FloatOps F] {Λ : Labels}
variable {V : Valuation τ sig (Elt F)} {S : Shape}

/-- The scalar shape. -/
abbrev S₀ : Shape := ⟨0, ![]⟩

/-- The word that an integer array holds at position `i`. -/
def word (V : Valuation τ sig (Elt F)) {S : Shape} (t : TRef sig ⟨S, .i32⟩) (i : S.Idx) : W := rd V t i

/-- The word that a scalar holds. -/
def word₀ (V : Valuation τ sig (Elt F)) (t : TRef sig ⟨S₀, .i32⟩) : W := word V t ValueIdx.ix0

/-- The contents are as the one line leaves them. -/
abbrev Ln (nD : ℕ) {τ : Topo} {sig : RefSig} {F : FTy → Type} [FloatOps F] (Λ : Labels) (V : Valuation τ sig (Elt F))
    (op : HloOp τ sig (Elt F)) : Prop :=
  Fixed (nD := nD) (Λ := Λ) V (hlo rfl op fun _ => .ret (⟨⟩ : PUnit))

/-- A host shift to the left by less than the width, at an index. -/
theorem hshli_apply (x y : IVec S 32) (i : S.Idx) (h : (y i).toNat < 32) : Host.shli x y i = x i <<< y i := by
  simp [Host.shli, IntOp.shli, h]

/-- A host shift to the right by less than the width, at an index. -/
theorem hshrui_apply (x y : IVec S 32) (i : S.Idx) (h : (y i).toNat < 32) : Host.shrui x y i = x i >>> y i := by
  simp [Host.shrui, IntOp.shrui, h]

variable {a b k₀ k₁ c c' : TRef sig ⟨S₀, .i32⟩} {x₀ x₁ y₀ y₁ t₁ t₂ t₃ t₄ t₅ : TRef sig ⟨S, .i32⟩} {r l n : W} {R : Prop}

/-- The nine lines of one round leave the round of the pair. -/
theorem round_lines (hS hS') (hr : r.toNat < 32) (hl : l.toNat < 32)
    (h : (Ln nD Λ V (TRef.binary x₀ x₁ y₀ addi)) ∧ (Ln nD Λ V (TRef.nullary c (constantI S₀ 32 r)))
      ∧ (Ln nD Λ V (TRef.unary c t₁ (broadcastInDim S ![] hS))) ∧ (Ln nD Λ V (TRef.binary x₁ t₁ t₂ Host.shli))
      ∧ (Ln nD Λ V (TRef.nullary c' (constantI S₀ 32 l))) ∧ (Ln nD Λ V (TRef.unary c' t₃ (broadcastInDim S ![] hS')))
      ∧ (Ln nD Λ V (TRef.binary x₁ t₃ t₄ Host.shrui)) ∧ (Ln nD Λ V (TRef.binary t₂ t₄ t₅ ori)) ∧ (Ln nD Λ V (TRef.binary y₀ t₅ y₁ xori)) ∧ R) :
    (∀ i, (word V y₀ i, word V y₁ i) = rnd r l (word V x₀ i, word V x₁ i)) ∧ R := by
  obtain ⟨h0, h1, h2, h3, h4, h5, h6, h7, h8, hR⟩ := h
  refine ⟨fun i => ?_, hR⟩
  have e1 : rd V t₁ = constantI S 32 r := by
    rw [fix_unary h2, fix_nullary h1]; rfl
  have e3 : rd V t₃ = constantI S 32 l := by
    rw [fix_unary h5, fix_nullary h4]; rfl
  have e2 : rd V t₂ i = rd V x₁ i <<< r := by
    rw [fix_binary h3, e1]; exact hshli_apply _ _ _ hr
  have e4 : rd V t₄ i = rd V x₁ i >>> l := by
    rw [fix_binary h6, e3]; exact hshrui_apply _ _ _ hl
  have e0 : rd V y₀ i = rd V x₀ i + rd V x₁ i := by rw [fix_binary h0]; rfl
  have e8 : rd V y₁ i = rd V y₀ i ^^^ (rd V t₂ i ||| rd V t₄ i) := by rw [fix_binary h8, fix_binary h7]; rfl
  rw [e2, e4, e0] at e8
  exact Prod.ext e0 e8

/-- The seven lines of a key injection. -/
theorem inj_lines (hS hS' hS'')
    (h : (Ln nD Λ V (TRef.unary a t₁ (broadcastInDim S ![] hS))) ∧ (Ln nD Λ V (TRef.binary x₀ t₁ y₀ addi))
      ∧ (Ln nD Λ V (TRef.unary b t₂ (broadcastInDim S ![] hS'))) ∧ (Ln nD Λ V (TRef.binary x₁ t₂ t₃ addi))
      ∧ (Ln nD Λ V (TRef.nullary c (constantI S₀ 32 n))) ∧ (Ln nD Λ V (TRef.unary c t₄ (broadcastInDim S ![] hS'')))
      ∧ (Ln nD Λ V (TRef.binary t₃ t₄ y₁ addi)) ∧ R) :
    (∀ i, (word V y₀ i, word V y₁ i) = inj (word₀ V a) (word₀ V b) n (word V x₀ i, word V x₁ i)) ∧ R := by
  obtain ⟨h0, h1, h2, h3, h4, h5, h6, hR⟩ := h
  refine ⟨fun i => ?_, hR⟩
  have e1 : rd V y₀ i = rd V x₀ i + rd V a ValueIdx.ix0 := by
    rw [fix_binary h1, fix_unary h0]
    exact congrArg (rd V x₀ i + ·) (ValueIdx.broadcastInDim_scalar_apply hS (rd V a) i)
  have e2 : rd V t₃ i = rd V x₁ i + rd V b ValueIdx.ix0 := by
    rw [fix_binary h3, fix_unary h2]
    exact congrArg (rd V x₁ i + ·) (ValueIdx.broadcastInDim_scalar_apply hS' (rd V b) i)
  have e3 : rd V y₁ i = rd V t₃ i + n := by
    rw [fix_binary h6, fix_unary h5, fix_nullary h4]; rfl
  rw [e2] at e3
  exact Prod.ext e1 e3

/-- The seven lines before the first round: the third key word, and the two words with their key words added. -/
theorem init_lines {d e : TRef sig ⟨S₀, .i32⟩} (hS hS')
    (h : (Ln nD Λ V (TRef.binary k₀ k₁ d xori)) ∧ (Ln nD Λ V (TRef.nullary c (constantI S₀ 32 466688986#32)))
      ∧ (Ln nD Λ V (TRef.binary d c e xori)) ∧ (Ln nD Λ V (TRef.unary k₀ t₁ (broadcastInDim S ![] hS))) ∧ (Ln nD Λ V (TRef.binary x₀ t₁ y₀ addi))
      ∧ (Ln nD Λ V (TRef.unary k₁ t₂ (broadcastInDim S ![] hS'))) ∧ (Ln nD Λ V (TRef.binary x₁ t₂ y₁ addi)) ∧ R) :
    (word₀ V e = third (word₀ V k₀) (word₀ V k₁)
      ∧ ∀ i, (word V y₀ i, word V y₁ i) = (word V x₀ i + word₀ V k₀, word V x₁ i + word₀ V k₁)) ∧ R := by
  obtain ⟨h0, h1, h2, h3, h4, h5, h6, hR⟩ := h
  refine ⟨⟨?_, fun i => ?_⟩, hR⟩
  · have : rd V e ValueIdx.ix0 = third (rd V k₀ ValueIdx.ix0) (rd V k₁ ValueIdx.ix0) := by
      rw [fix_binary h2, fix_binary h0, fix_nullary h1]; rfl
    exact this
  have e1 : rd V y₀ i = rd V x₀ i + rd V k₀ ValueIdx.ix0 := by
    rw [fix_binary h4, fix_unary h3]
    exact congrArg (rd V x₀ i + ·) (ValueIdx.broadcastInDim_scalar_apply hS (rd V k₀) i)
  have e2 : rd V y₁ i = rd V x₁ i + rd V k₁ ValueIdx.ix0 := by
    rw [fix_binary h6, fix_unary h5]
    exact congrArg (rd V x₁ i + ·) (ValueIdx.broadcastInDim_scalar_apply hS' (rd V k₁) i)
  exact Prod.ext e1 e2

end Cert.Lines
-- ==== Proof.ModSpan.lean ====
/- The remainder by 30522 as the kernel takes it: two words of 16 bits folded into a smaller number of the same
   remainder, a quotient rounded from a product with the reciprocal, and one correction either way. -/
module

public import proofs.«01_k».proof.Proof.Threefry

@[expose] public section

set_option maxRecDepth 20000

noncomputable section

namespace Cert.ModSpan

open Idealize.ShloMosaic Cert.Threefry

/-- A word folded: its high half times the remainder of `2^16`, and its low half. -/
def fold₀ (b : W) : W := (b >>> 16#32) * 4492#32 + (b &&& 65535#32)

/-- The same fold with the high half taken by the signed shift. -/
def fold (y : W) : W := (y.sshiftRight' 16#32) * 4492#32 + (y &&& 65535#32)

/-- The quotient: the product with the reciprocal's constant and one half, rounded towards zero. -/
def quo (y : W) : W :=
  Ideal.fptosi 32 (((y.toInt : ℝ) : EReal) * Ideal.ofBits .f32 0x38096B46#32 + Ideal.ofBits .f32 0x3F000000#32)

/-- What the quotient `q` leaves of `y`, corrected by one span upwards or downwards. -/
def corrected (y q : W) : W :=
  let r := y - q * 30522#32
  let s := Scalar.select (IntOp.cmpi .slt r 0#32) (r + 30522#32) r
  Scalar.select (IntOp.cmpi .sge s 30522#32) (s - 30522#32) s

/-- The kernel's remainder. -/
def rem (y : W) : W := corrected y (quo y)

/-- The kernel's token of two random words. -/
def token (a b : W) : W :=
  rem (fold (rem (fold (fold (fold₀ a))) * 3022#32 + rem (fold (fold (fold₀ b)))))

/-- The fold as a natural number: it does not overflow. -/
theorem fold₀_toNat (b : W) : (fold₀ b).toNat = b.toNat / 65536 * 4492 + b.toNat % 65536 := by
  have hb := b.isLt
  have h1 : (b >>> 16#32).toNat = b.toNat / 65536 := by
    rw [BitVec.ushiftRight_eq', BitVec.toNat_ushiftRight, Nat.shiftRight_eq_div_pow]; rfl
  have h2 : (b &&& 65535#32).toNat = b.toNat % 65536 := by
    rw [BitVec.toNat_and]; exact Nat.and_two_pow_sub_one_eq_mod b.toNat 16
  have h3 : b.toNat / 65536 < 65536 := by omega
  rw [fold₀, BitVec.toNat_add, BitVec.toNat_mul, h1, h2]
  simp only [BitVec.toNat_ofNat]
  omega

/-- The same of the signed fold, of a number that is not negative. -/
theorem fold_toNat (y : W) (h : y.toNat < 2 ^ 31) : (fold y).toNat = y.toNat / 65536 * 4492 + y.toNat % 65536 := by
  rw [← fold₀_toNat]
  refine congrArg (fun z : W => (z * 4492#32 + (y &&& 65535#32)).toNat) ?_
  rw [BitVec.sshiftRight_eq', BitVec.sshiftRight_eq_of_msb_false (by rw [BitVec.msb_eq_false_iff_two_mul_lt]; omega)]
  rfl

/-- The integer part of a quotient of naturals that fits a signed word. -/
theorem convert_toNat (a b : ℕ) (hb : 0 < b) (h : a / b < 2 ^ 31) :
    (Ideal.fptosi 32 (((a : ℝ) / (b : ℝ) : ℝ) : EReal)).toNat = a / b := by
  have hb' : (0 : ℝ) < b := by exact_mod_cast hb
  have hf : ⌊((a : ℝ) / (b : ℝ) : ℝ)⌋ = ((a / b : ℕ) : ℤ) := by
    refine Int.floor_eq_iff.mpr ⟨?_, ?_⟩
    · rw [le_div_iff₀ hb']
      exact_mod_cast Nat.div_mul_le_self a b
    · rw [div_lt_iff₀ hb']
      exact_mod_cast (Nat.div_lt_iff_lt_mul hb).mp (Nat.lt_succ_self (a / b))
  generalize a / b = q at h hf
  rw [Ideal.fptosi, Ideal.toIntClamped_coe, if_pos (by positivity), hf,
    show max (-((2 ^ (32 - 1) : ℕ) : ℤ)) (min (((2 ^ (32 - 1) : ℕ) : ℤ) - 1) (q : ℤ)) = (q : ℤ) by omega,
    BitVec.ofInt_natCast, BitVec.toNat_ofNat]
  omega

/-- The quotient as a natural number. -/
theorem quo_toNat (y : W) (h : y.toNat < 2 ^ 25) : (quo y).toNat = (y.toNat * 9005894 + 2 ^ 37) / 2 ^ 38 := by
  have hy : y.toInt = (y.toNat : ℤ) := BitVec.toInt_eq_toNat_of_lt (by omega)
  have hr : Ideal.ofBits .f32 0x38096B46#32 = ((9005894 / 2 ^ 38 : ℝ) : EReal) := by
    simp [Ideal.ofBits, Ideal.ieee, -EReal.coe_mul]; norm_num
  have hh : Ideal.ofBits .f32 0x3F000000#32 = ((1 / 2 : ℝ) : EReal) := by
    simp [Ideal.ofBits, Ideal.ieee, -EReal.coe_mul]; norm_num
  have hv : ((y.toInt : ℝ) : EReal) * Ideal.ofBits .f32 0x38096B46#32 + Ideal.ofBits .f32 0x3F000000#32
      = ((((y.toNat * 9005894 + 2 ^ 37 : ℕ) : ℝ) / ((2 ^ 38 : ℕ) : ℝ) : ℝ) : EReal) := by
    rw [hr, hh, hy, ← EReal.coe_mul, ← EReal.coe_add]
    refine congrArg _ ?_
    push_cast
    ring
  rw [quo, hv]
  have hq : (y.toNat * 9005894 + 2 ^ 37) / 2 ^ 38 < 2 ^ 31 := by omega
  exact convert_toNat _ _ (by norm_num) hq

/-- A signed comparison with a bound, over the numbers. -/
theorem slt_zero (z : W) : IntOp.cmpi .slt z 0#32 = BitVec.ofBool (decide (2 ^ 31 ≤ z.toNat)) := by
  have hz := z.isLt
  refine congrArg BitVec.ofBool ?_
  rw [BitVec.slt_eq_decide, BitVec.toInt_eq_toNat_cond, show (0#32).toInt = 0 by decide]
  refine decide_eq_decide.mpr ?_
  split_ifs <;> omega

/-- The comparison with the span, of a number that is not negative. -/
theorem sge_span (z : W) (h : z.toNat < 2 ^ 31) : IntOp.cmpi .sge z 30522#32 = BitVec.ofBool (decide (30522 ≤ z.toNat)) := by
  refine congrArg BitVec.ofBool ?_
  show BitVec.sle 30522#32 z = _
  rw [BitVec.sle_eq_decide]
  refine decide_eq_decide.mpr ?_
  rw [BitVec.toInt_eq_toNat_of_lt (x := z) (by omega), show (30522#32).toInt = 30522 by decide]
  exact Int.ofNat_le

/-- A quotient that is right or one too large leaves the remainder after the correction. -/
theorem corrected_toNat (y q : W) (k m : ℕ) (e : 30522 * k + m = y.toNat) (hr : m < 30522) (hk : k < 2 ^ 16)
    (hq : q.toNat = k ∨ q.toNat = k + 1) : (corrected y q).toNat = m := by
  have hs : (y - q * 30522#32).toNat = m ∨ (y - q * 30522#32).toNat = 2 ^ 32 + m - 30522 := by
    rw [BitVec.toNat_sub, BitVec.toNat_mul]
    simp only [BitVec.toNat_ofNat]
    omega
  rw [corrected]
  generalize y - q * 30522#32 = r at hs
  simp only [slt_zero]
  rcases hs with hs | hs
  · rw [decide_eq_false (by omega)]
    show (Scalar.select (IntOp.cmpi .sge r 30522#32) (r - 30522#32) r).toNat = m
    rw [sge_span _ (by omega), decide_eq_false (by omega)]
    exact hs
  · rw [decide_eq_true (by omega)]
    show (Scalar.select (IntOp.cmpi .sge (r + 30522#32) 30522#32) (r + 30522#32 - 30522#32) (r + 30522#32)).toNat = m
    have ha : (r + 30522#32).toNat = m := by
      rw [BitVec.toNat_add]
      simp only [BitVec.toNat_ofNat]
      omega
    rw [sge_span _ (by omega), decide_eq_false (by omega)]
    exact ha

/-- The kernel's remainder is the remainder. -/
theorem rem_toNat (y : W) (h : y.toNat < 2 ^ 25) : (rem y).toNat = y.toNat % 30522 := by
  have hq := quo_toNat y h
  have e := Nat.div_add_mod y.toNat 30522
  have hr := Nat.mod_lt y.toNat (show 0 < 30522 by decide)
  refine corrected_toNat y (quo y) (y.toNat / 30522) _ e hr (by omega) ?_
  generalize y.toNat / 30522 = k at e
  generalize y.toNat % 30522 = m at e hr
  omega

/-- The kernel's token as a natural number. -/
theorem token_toNat (a b : W) : (token a b).toNat = (a.toNat % 30522 * 3022 + b.toNat % 30522) % 30522 := by
  have part (a : W) : (rem (fold (fold (fold₀ a)))).toNat = a.toNat % 30522 := by
    have ha := a.isLt
    have e0 := fold₀_toNat a
    have e1 := fold_toNat (fold₀ a) (by omega)
    have e2 := fold_toNat (fold (fold₀ a)) (by omega)
    rw [rem_toNat _ (by omega)]
    omega
  have ea := part a
  have eb := part b
  rw [token]
  generalize rem (fold (fold (fold₀ a))) = u at ea
  generalize rem (fold (fold (fold₀ b))) = v at eb
  have e : (u * 3022#32 + v).toNat = u.toNat * 3022 + v.toNat := by
    rw [BitVec.toNat_add, BitVec.toNat_mul]
    simp only [BitVec.toNat_ofNat]
    omega
  have e1 := fold_toNat (u * 3022#32 + v) (by omega)
  rw [rem_toNat _ (by omega)]
  omega

/-- The kernel's token is the remainder of the two words' combined remainder. -/
theorem token_eq (a b : W) : token a b = (a % 30522#32 * 3022#32 + b % 30522#32) % 30522#32 := by
  apply BitVec.eq_of_toNat_eq
  rw [token_toNat, BitVec.toNat_umod, BitVec.toNat_add, BitVec.toNat_mul, BitVec.toNat_umod, BitVec.toNat_umod]
  rw [show (30522#32).toNat = 30522 by decide, show (3022#32).toNat = 3022 by decide]
  have h1 : a.toNat % 30522 * 3022 < 2 ^ 32 := by omega
  have h2 : a.toNat % 30522 * 3022 + b.toNat % 30522 < 2 ^ 32 := by omega
  rw [Nat.mod_eq_of_lt h1, Nat.mod_eq_of_lt h2]

end Cert.ModSpan
-- ==== Proof.KernelWords.lean ====
/- What the table kernel's payloads hold at one position: the five generators' words, the three masks and the token,
   each as a number of the position's index. -/
module

public import proofs.«01_k».proof.Proof.KernelIdealRun
public import proofs.«01_k».proof.Proof.ModSpan
public import Idealize.ShloMosaic.Lib.Pointwise

@[expose] public section

set_option maxRecDepth 20000

noncomputable section

namespace Cert.KernelIdeal.Run

open Idealize.ShloMosaic Cert.KernelIdeal Cert.KernelIdeal.Gen Cert.Threefry Cert.ModSpan

/-- The third key words of the five keys. -/
theorem third_mask : third 1832780943#32 270669613#32 = 1724713080#32 := by decide

/-- The third word of the second key. -/
theorem third_fixed : third 64467757#32 2916123636#32 = 3050711811#32 := by decide

/-- The third word of the third key. -/
theorem third_random : third 2465931498#32 255383827#32 = 2249384483#32 := by decide

/-- The third word of the fourth key. -/
theorem third_high : third 2463158877#32 4047937370#32 = 2017941213#32 := by decide

/-- The third word of the fifth key. -/
theorem third_low : third 1914800406#32 1741898942#32 = 237229682#32 := by decide

/-- A shift by a number below the width is the plain shift. -/
theorem shl_plain (x y : W) (h : (decide (y.toNat < 32)) = true) : IntOp.shli .vector x y = x <<< y := by
  have := of_decide_eq_true h
  simp [IntOp.shli, this]

/-- The same of the shift to the right. -/
theorem shr_plain (x y : W) (h : (decide (y.toNat < 32)) = true) : IntOp.shrui .vector x y = x >>> y := by
  have := of_decide_eq_true h
  simp [IntOp.shrui, this]

/-- The same of the signed shift to the right. -/
theorem sar_plain (x y : W) (h : (decide (y.toNat < 32)) = true) : IntOp.shrsi .vector x y = x.sshiftRight' y := by
  have := of_decide_eq_true h
  simp [IntOp.shrsi, this]

/-- Zero added to a word. -/
theorem zero_plus (x : W) : (0 : W) + x = x := BitVec.zero_add x

/-- The conversions at the extended reals. -/
theorem sitofp_real (x : W) : (Scalar.sitofp .f32 x : Ideal .f32) = ((x.toInt : ℝ) : EReal) := rfl

section Words

variable (i : grid0.Coords) (j : S8x8192.Idx) (k : IVec S8x8192 32) (hk : k0_pay2 i = k)

include hk

/-- The first mask: the first generator's word against its bound. -/
theorem masked_value : k0_pay213 i j =
    IntOp.cmpi .slt (bits 1832780943#32 270669613#32 (k j) >>> 9#32) 1258292#32 := by
  simp (disch := decide) only [k0_pay205, k0_pay206, k0_pay207, k0_pay208, k0_pay209, k0_pay210, k0_pay211, k0_pay212, k0_pay213, k0_pay3,
      k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44,
      k0_pay45, k0_pay46, k0_pay47, k0_pay48, k0_pay49, k0_pay50,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, bits, tf, four, four', rnd, inj, zero_plus, hk, third_mask]
  rfl

/-- The second mask: the first, and the second generator's word against its bound. -/
theorem fixed_value : k0_pay218 i j =
    k0_pay213 i j &&& IntOp.cmpi .slt (bits 64467757#32 2916123636#32 (k j) >>> 9#32) 6710887#32 := by
  simp (disch := decide) only [k0_pay204, k0_pay214, k0_pay215, k0_pay216, k0_pay217, k0_pay218, k0_pay51, k0_pay52, k0_pay53, k0_pay54,
      k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74,
      k0_pay75, k0_pay76, k0_pay77, k0_pay78, k0_pay79, k0_pay80, k0_pay81, k0_pay82, k0_pay83, k0_pay84,
      k0_pay85, k0_pay86,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, bits, tf, four, four', rnd, inj, zero_plus, hk, third_fixed]
  rfl

/-- The third generator's word, shifted. -/
theorem random_value : k0_pay122 (k0_pay119 (k0_pay222 i) (k0_pay223 i)) (k0_pay120 (k0_pay222 i) (k0_pay223 i)) (k0_pay121 (k0_pay222 i) (k0_pay223 i)) j =
    bits 2465931498#32 255383827#32 (k j) >>> 9#32 := by
  simp (disch := decide) only [k0_pay204, k0_pay219, k0_pay220, k0_pay221, k0_pay222, k0_pay223, k0_pay87, k0_pay88, k0_pay89, k0_pay90,
      k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109,
      k0_pay110, k0_pay111, k0_pay112, k0_pay113, k0_pay114, k0_pay115, k0_pay116, k0_pay117, k0_pay118,
      k0_pay119, k0_pay120, k0_pay121, k0_pay122,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, bits, tf, four, four', rnd, inj, zero_plus, hk, third_random]
  rfl

/-- The first number of the token: the fourth generator's word, folded and reduced. -/
theorem high_value : k0_pay229 (F := Ideal) i j =
    rem (fold (fold (fold₀ (bits 2463158877#32 4047937370#32 (k j))))) := by
  simp (disch := decide) only [k0_pay204, k0_pay224, k0_pay225, k0_pay226, k0_pay227, k0_pay228, k0_pay229, k0_pay124, k0_pay125,
      k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143,
      k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, bits, tf, four, four', rnd, inj, zero_plus, hk, third_high, rem, corrected, quo, fold, fold₀, sitofp_real]
  rfl

/-- The fifth generator's word, folded once. -/
theorem low_value : k0_pay240 i j =
    fold₀ (bits 1914800406#32 1741898942#32 (k j)) := by
  simp (disch := decide) only [k0_pay204, k0_pay230, k0_pay231, k0_pay232, k0_pay233, k0_pay234, k0_pay235, k0_pay236, k0_pay237,
      k0_pay238, k0_pay239, k0_pay240, k0_pay162, k0_pay163, k0_pay164, k0_pay165, k0_pay166, k0_pay167,
      k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185,
      k0_pay186, k0_pay187, k0_pay188, k0_pay189, k0_pay190, k0_pay191, k0_pay192, k0_pay193, k0_pay194,
      k0_pay195, k0_pay196, k0_pay197, k0_pay198, k0_pay199,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, bits, tf, four, four', rnd, inj, zero_plus, hk, third_low, fold₀]
  rfl

end Words

end Cert.KernelIdeal.Run
-- ==== Proof.RefThreefry.lean ====
/- The three functions of the reference that run the generator on arrays (of four, of two, and of all the result's
   positions): each leaves, at every position, the generator's pair of the position's two words. -/
module

public import proofs.«01_k».proof.ReferenceIdeal
public import proofs.«01_k».proof.Proof.Threefry

@[expose] public section

set_option maxRecDepth 20000

noncomputable section

namespace Cert.ReferenceIdeal.Run

open Idealize.ShloMosaic Idealize.SL.Sem Idealize.ShloMosaic.StableHlo Cert.Lines Cert.Threefry Cert.ReferenceIdeal

variable {F : FTy → Type} [FloatOps F] [Facts] {V : Valuation τ sig (Elt F)}
  {k₀ k₁ : TRef sig ⟨S_, .i32⟩}

set_option maxHeartbeats 4000000 in
/-- The generator on four positions. -/
theorem threefry_four {x₀ x₁ : TRef sig ⟨S4, .i32⟩} {φ : fn_threefry2x32.Bufs}
    (h : Fixed V (fn_threefry2x32.body (F := F) k₀ k₁ x₀ x₁ φ)) (i : S4.Idx) :
    (word V φ.v171 i, word V φ.v175 i) = tf (word₀ V k₀) (word₀ V k₁) (word V x₀ i) (word V x₁ i) := by
  simp only [fn_threefry2x32.body, fn_threefry2x32.body_part0, fn_threefry2x32.body_part1,
    fn_threefry2x32.body_part2, fn_threefry2x32.body_part3, fixed_bind, and_assoc] at h
  obtain ⟨⟨ek, e⟩, h⟩ := init_lines _ _ h
  replace e := e i
  iterate 5
    (iterate 4 (obtain ⟨e', h⟩ := round_lines _ _ (by decide) (by decide) h; replace e := (e' i).trans (congrArg _ e); clear e')
     obtain ⟨e', h⟩ := inj_lines _ _ _ h; replace e := (e' i).trans (congrArg _ e); clear e')
  rw [e, ek]; rfl

set_option maxHeartbeats 4000000 in
/-- The generator on two positions. -/
theorem threefry_two {x₀ x₁ : TRef sig ⟨S2, .i32⟩} {φ : fn_threefry2x32_4.Bufs}
    (h : Fixed V (fn_threefry2x32_4.body (F := F) k₀ k₁ x₀ x₁ φ)) (i : S2.Idx) :
    (word V φ.v171 i, word V φ.v175 i) = tf (word₀ V k₀) (word₀ V k₁) (word V x₀ i) (word V x₁ i) := by
  simp only [fn_threefry2x32_4.body, fn_threefry2x32_4.body_part0, fn_threefry2x32_4.body_part1,
    fn_threefry2x32_4.body_part2, fn_threefry2x32_4.body_part3, fixed_bind, and_assoc] at h
  obtain ⟨⟨ek, e⟩, h⟩ := init_lines _ _ h
  replace e := e i
  iterate 5
    (iterate 4 (obtain ⟨e', h⟩ := round_lines _ _ (by decide) (by decide) h; replace e := (e' i).trans (congrArg _ e); clear e')
     obtain ⟨e', h⟩ := inj_lines _ _ _ h; replace e := (e' i).trans (congrArg _ e); clear e')
  rw [e, ek]; rfl

set_option maxHeartbeats 4000000 in
/-- The generator on all positions of the result. -/
theorem threefry_all {x₀ x₁ : TRef sig ⟨S128x8192, .i32⟩} {φ : fn_threefry2x32_0.Bufs}
    (h : Fixed V (fn_threefry2x32_0.body (F := F) k₀ k₁ x₀ x₁ φ)) (i : S128x8192.Idx) :
    (word V φ.v171 i, word V φ.v175 i) = tf (word₀ V k₀) (word₀ V k₁) (word V x₀ i) (word V x₁ i) := by
  simp only [fn_threefry2x32_0.body, fn_threefry2x32_0.body_part0, fn_threefry2x32_0.body_part1,
    fn_threefry2x32_0.body_part2, fn_threefry2x32_0.body_part3, fixed_bind, and_assoc] at h
  obtain ⟨⟨ek, e⟩, h⟩ := init_lines _ _ h
  replace e := e i
  iterate 5
    (iterate 4 (obtain ⟨e', h⟩ := round_lines _ _ (by decide) (by decide) h; replace e := (e' i).trans (congrArg _ e); clear e')
     obtain ⟨e', h⟩ := inj_lines _ _ _ h; replace e := (e' i).trans (congrArg _ e); clear e')
  rw [e, ek]; rfl

end Cert.ReferenceIdeal.Run
-- ==== Proof.KeyLines.lean ====
/- What the lines around the generator leave: a key's two words taken out of an array, the counts of an array's
   positions, the generator's words put side by side as keys, and one key taken out of them. -/
module

public import proofs.«01_k».proof.Proof.Threefry
public import Idealize.ShloMosaic.Lib.ValueLayout
public import Idealize.ShloMosaic.Lib.ValueIdxCoords

@[expose] public section

namespace Cert.Lines

open Idealize.ShloMosaic Idealize.SL.Sem Idealize.ShloMosaic.StableHlo Idealize.ShloMosaic.ValueIdx Cert.Threefry

variable {nD : ℕ} {τ : Topo} {sig : RefSig} {F : FTy → Type} [FloatOps F] {Λ : Labels}
variable {V : Valuation τ sig (Elt F)} {n : ℕ} {R : Prop}

/-- A vector of `n` words. -/
abbrev Sv (n : ℕ) : Shape := ⟨1, ![n]⟩

/-- An array of `n` rows of `m`. -/
abbrev Sm (n m : ℕ) : Shape := ⟨2, ![n, m]⟩

/-- The two words of a key, cut out of it. -/
theorem key_lines {k : TRef sig ⟨Sv 2, .i32⟩} {s₀ s₁ : TRef sig ⟨Sv 1, .i32⟩} {k₀ k₁ : TRef sig ⟨S₀, .i32⟩} (h0 h1)
    {he he' hn hn'}
    (h : (Ln nD Λ V (TRef.unary k s₀ (extractStridedSlice (Sv 1) ![0] · h0))) ∧ (Ln nD Λ V (TRef.reshape s₀ k₀ he hn))
      ∧ (Ln nD Λ V (TRef.unary k s₁ (extractStridedSlice (Sv 1) ![1] · h1))) ∧ (Ln nD Λ V (TRef.reshape s₁ k₁ he' hn')) ∧ R) :
    (word₀ V k₀ = word V k (ix1 0) ∧ word₀ V k₁ = word V k (ix1 1)) ∧ R := by
  obtain ⟨e0, e1, e2, e3, hR⟩ := h
  refine ⟨⟨?_, ?_⟩, hR⟩
  · have : rd V k₀ ix0 = rd V k (ix1 0) := by
      rw [fix_reshape e1, fix_unary e0]
      refine (congrArg (extractStridedSlice (Sv 1) ![0] (rd V k) h0) (eq_ix1_u0 _)).trans ?_
      exact extractStridedSlice_apply _ _ h0 _ _ fun a => by match a with | ⟨0, _⟩ => rfl
    exact this
  · have : rd V k₁ ix0 = rd V k (ix1 1) := by
      rw [fix_reshape e3, fix_unary e2]
      refine (congrArg (extractStridedSlice (Sv 1) ![1] (rd V k) h1) (eq_ix1_u0 _)).trans ?_
      exact extractStridedSlice_apply _ _ h1 _ _ fun a => by match a with | ⟨0, _⟩ => rfl
    exact this

/-- One row of an array of keys, as a key. -/
theorem row_lines {A : TRef sig ⟨Sm n 2, .i32⟩} {s : TRef sig ⟨Sm 1 2, .i32⟩} {k : TRef sig ⟨Sv 2, .i32⟩} {r : ℕ} (hr : r < n)
    (h0) {he hn}
    (h : (Ln nD Λ V (TRef.unary A s (extractStridedSlice (Sm 1 2) ![r, 0] · h0))) ∧ (Ln nD Λ V (TRef.reshape s k he hn)) ∧ R) :
    (∀ c : Fin 2, word V k (ix1 c) = word V A (ix2 ⟨r, hr⟩ c)) ∧ R := by
  obtain ⟨e0, e1, hR⟩ := h
  refine ⟨fun c => ?_, hR⟩
  have : rd V k (ix1 c) = rd V A (ix2 ⟨r, hr⟩ c) := by
    rw [fix_reshape e1, fix_unary e0]
    refine (shapeCast_1a_a_apply _ hn c).trans ?_
    exact extractStridedSlice_apply _ _ h0 _ _ fun a => by
      match a with
      | ⟨0, _⟩ => rfl
      | ⟨1, _⟩ => exact (Nat.zero_add _).symm
  exact this

/-- Two vectors put side by side as the columns of an array. -/
theorem join_lines {x y : TRef sig ⟨Sv n, .i32⟩} {s t : TRef sig ⟨Sm n 1, .i32⟩} {A : TRef sig ⟨Sm n 2, .i32⟩} (h0 h1)
    (h2 : Shape.Concatenates [Sm n 1, Sm n 1] (Sm n 2) 1)
    (h : (Ln nD Λ V (TRef.unary x s (broadcastInDim (Sm n 1) ![0] h0))) ∧ (Ln nD Λ V (TRef.unary y t (broadcastInDim (Sm n 1) ![0] h1)))
      ∧ (Ln nD Λ V (TRef.binary s t A (fun a b => concatenate (Sm n 2) 1 [⟨Sm n 1, a⟩, ⟨Sm n 1, b⟩] h2))) ∧ R) :
    (∀ r : Fin n, word V A (ix2 r 0) = word V x (ix1 r) ∧ word V A (ix2 r 1) = word V y (ix1 r)) ∧ R := by
  obtain ⟨e0, e1, e2, hR⟩ := h
  refine ⟨fun r => ⟨?_, ?_⟩, hR⟩
  · have : rd V A (ix2 r 0) = rd V x (ix1 r) := by
      rw [fix_binary e2, fix_unary e0]
      refine (concatenate_pair_apply_left (t := Sm n 2) (s₁ := Sm n 1) (s₂ := Sm n 1) 1 _ _ h2 (ix2 r 0) rfl (ix2 r (0 : Fin 1)) fun b => ?_).trans ?_
      · match b with
        | ⟨0, _⟩ => rfl
        | ⟨1, _⟩ => rfl
      · refine broadcastInDim_apply _ h0 _ _ _ fun a => ?_
        match a with
        | ⟨0, _⟩ =>
          show r.val = if n = 1 then 0 else r.val
          split
          · omega
          · rfl
    exact this
  · have : rd V A (ix2 r 1) = rd V y (ix1 r) := by
      rw [fix_binary e2, fix_unary e1]
      refine (concatenate_pair_apply_right (t := Sm n 2) (s₁ := Sm n 1) (s₂ := Sm n 1) 1 _ _ h2 (ix2 r 1) rfl rfl (ix2 r (0 : Fin 1)) (fun b hb => ?_) rfl).trans ?_
      · match b with
        | ⟨0, _⟩ => rfl
        | ⟨1, _⟩ => exact absurd rfl hb
      · refine broadcastInDim_apply _ h1 _ _ _ fun a => ?_
        match a with
        | ⟨0, _⟩ =>
          show r.val = if n = 1 then 0 else r.val
          split
          · omega
          · rfl
    exact this

/-- A count below `2^32`, shifted right by 32 bits, is zero. -/
theorem high_zero (x : BitVec 64) (hx : x.toNat < 2 ^ 32) : (IntOp.shrui .host x 32#64).setWidth 32 = 0#32 := by
  have : IntOp.shrui .host x 32#64 = 0#64 := by
    apply BitVec.eq_of_toNat_eq
    simp [IntOp.shrui, Nat.shiftRight_eq_div_pow]
    omega
  rw [this]; rfl

/-- The counts of a vector's positions: the low word is the position, the high word zero. -/
theorem count_lines {v p q t u : TRef sig ⟨Sv n, .i64⟩} {c d : TRef sig ⟨S₀, .i64⟩} {lo hi : TRef sig ⟨Sv n, .i32⟩} (h0 h1 h2 h3)
    (hn : n < 2 ^ 32)
    (h : (Ln nD Λ V (TRef.nullary v (iotaInDim (Sv n) 64 0))) ∧ (Ln nD Λ V (TRef.nullary c (constantI S₀ 64 1#64)))
      ∧ (Ln nD Λ V (TRef.unary c p (broadcastInDim (Sv n) ![] h0))) ∧ (Ln nD Λ V (TRef.binary p v q muli))
      ∧ (Ln nD Λ V (TRef.nullary d (constantI S₀ 64 32#64))) ∧ (Ln nD Λ V (TRef.unary d t (broadcastInDim (Sv n) ![] h1)))
      ∧ (Ln nD Λ V (TRef.binary q t u Host.shrui)) ∧ (Ln nD Λ V (TRef.unary q lo (trunci 32 · h2)))
      ∧ (Ln nD Λ V (TRef.unary u hi (trunci 32 · h3))) ∧ R) :
    (∀ i : (Sv n).Idx, word V lo i = BitVec.ofNat 32 (i 0).val ∧ word V hi i = 0) ∧ R := by
  obtain ⟨e0, e1, e2, e3, e4, e5, e6, e7, e8, hR⟩ := h
  refine ⟨fun i => ?_, hR⟩
  have hi' : (i 0).val < 2 ^ 32 := Nat.lt_trans (i 0).isLt hn
  have eq : rd V q i = BitVec.ofNat 64 (i 0).val := by
    rw [fix_binary e3, fix_unary e2, fix_nullary e1, fix_nullary e0]
    show 1#64 * BitVec.ofNat 64 (i 0).val = _
    simp
  have eq' : (rd V q i : BitVec 64).toNat = (i 0).val := by
    rw [eq]; simp only [BitVec.toNat_ofNat]; omega
  constructor
  · have : rd V lo i = BitVec.ofNat 32 (i 0).val := by
      rw [fix_unary e7]
      show (rd V q i : BitVec 64).setWidth 32 = _
      rw [eq]; apply BitVec.eq_of_toNat_eq; simp
    exact this
  · have : rd V hi i = 0#32 := by
      rw [fix_unary e8, fix_binary e6, fix_unary e5, fix_nullary e4]
      exact high_zero _ (by rw [eq']; exact hi')
    exact this

/-- The counts of an array's positions in row-major order: the low word is the position's, the high word zero. -/
theorem counts_lines {m : ℕ} {v v' p q p' q' s t u : TRef sig ⟨Sm n m, .i64⟩} {c c' d : TRef sig ⟨S₀, .i64⟩}
    {lo hi : TRef sig ⟨Sm n m, .i32⟩} (h0 h0' h1 h2 h3) {k : ℕ} (hk : k < 2 ^ 31) (hn : k * n + m < 2 ^ 32)
    (h : (Ln nD Λ V (TRef.nullary v (iotaInDim (Sm n m) 64 0))) ∧ (Ln nD Λ V (TRef.nullary v' (iotaInDim (Sm n m) 64 1)))
      ∧ (Ln nD Λ V (TRef.nullary c (constantI S₀ 64 (BitVec.ofNat 64 k))))
      ∧ (Ln nD Λ V (TRef.unary c p (broadcastInDim (Sm n m) ![] h0))) ∧ (Ln nD Λ V (TRef.binary p v q muli))
      ∧ (Ln nD Λ V (TRef.nullary c' (constantI S₀ 64 1#64)))
      ∧ (Ln nD Λ V (TRef.unary c' p' (broadcastInDim (Sm n m) ![] h0'))) ∧ (Ln nD Λ V (TRef.binary p' v' q' muli))
      ∧ (Ln nD Λ V (TRef.binary q q' s addi))
      ∧ (Ln nD Λ V (TRef.nullary d (constantI S₀ 64 32#64))) ∧ (Ln nD Λ V (TRef.unary d t (broadcastInDim (Sm n m) ![] h1)))
      ∧ (Ln nD Λ V (TRef.binary s t u Host.shrui)) ∧ (Ln nD Λ V (TRef.unary s lo (trunci 32 · h2)))
      ∧ (Ln nD Λ V (TRef.unary u hi (trunci 32 · h3))) ∧ R) :
    (∀ i : (Sm n m).Idx, word V lo i = BitVec.ofNat 32 (k * (i 0).val + (i 1).val) ∧ word V hi i = 0) ∧ R := by
  obtain ⟨e0, e0', e1, e2, e3, e1', e2', e3', es, e4, e5, e6, e7, e8, hR⟩ := h
  refine ⟨fun i => ?_, hR⟩
  have hi' : k * (i 0).val + (i 1).val < 2 ^ 32 := by
    have h1 : (i 0).val ≤ n := (i 0).isLt.le
    have h2 : (i 1).val < m := (i 1).isLt
    have := Nat.mul_le_mul_left k h1
    omega
  have eq : rd V s i = BitVec.ofNat 64 (k * (i 0).val + (i 1).val) := by
    rw [fix_binary es, fix_binary e3, fix_binary e3', fix_unary e2, fix_nullary e1, fix_nullary e0, fix_unary e2',
      fix_nullary e1', fix_nullary e0']
    show BitVec.ofNat 64 k * BitVec.ofNat 64 (i 0).val + 1#64 * BitVec.ofNat 64 (i 1).val = _
    rw [BitVec.one_mul, BitVec.ofNat_add, BitVec.ofNat_mul]
  have eq' : (rd V s i : BitVec 64).toNat = k * (i 0).val + (i 1).val := by
    rw [eq]; simp only [BitVec.toNat_ofNat]; omega
  constructor
  · have : rd V lo i = BitVec.ofNat 32 (k * (i 0).val + (i 1).val) := by
      rw [fix_unary e7]
      show (rd V s i : BitVec 64).setWidth 32 = _
      rw [eq]; apply BitVec.eq_of_toNat_eq; simp
    exact this
  · have : rd V hi i = 0#32 := by
      rw [fix_unary e8, fix_binary e6, fix_unary e5, fix_nullary e4]
      exact high_zero _ (by rw [eq']; exact hi')
    exact this

end Cert.Lines
-- ==== Proof.RefWords.lean ====
/- The random words of the reference: the keys split off a key, and the words of all positions under a key. -/
module

public import proofs.«01_k».proof.Proof.RefThreefry
public import proofs.«01_k».proof.Proof.KeyLines

@[expose] public section

set_option maxRecDepth 20000

noncomputable section

namespace Cert.ReferenceIdeal.Run

open Idealize.ShloMosaic Idealize.SL.Sem Idealize.ShloMosaic.StableHlo Idealize.ShloMosaic.ValueIdx
open Cert.Lines Cert.Threefry Cert.ReferenceIdeal

variable {F : FTy → Type} [FloatOps F] [Facts] {V : Valuation τ sig (Elt F)}

/-- A key of two words. -/
abbrev Key := W × W

/-- The key an array of two words holds. -/
def key (V : Valuation τ sig (Elt F)) (t : TRef sig ⟨S2, .i32⟩) : Key := (word V t (ix1 0), word V t (ix1 1))

/-- The key of number `r` split off a key. -/
def split (k : Key) (r : ℕ) : Key := tf k.1 k.2 0 (BitVec.ofNat 32 r)

/-- The four keys split off a key. -/
theorem split_four {k : TRef sig ⟨S2, .i32⟩} {φ : fn_threefry_split.Bufs}
    (h : Fixed V (fn_threefry_split.body (F := F) k φ)) (r : Fin 4) :
    (word V φ.v14 (ix2 r 0), word V φ.v14 (ix2 r 1)) = split (key V k) r.val := by
  simp only [fn_threefry_split.body, fixed_bind, and_assoc] at h
  obtain ⟨⟨ek₀, ek₁⟩, h⟩ := key_lines _ _ h
  obtain ⟨ec, h⟩ := count_lines (n := 4) _ _ _ _ (by decide) h
  obtain ⟨ht, h⟩ := h
  obtain ⟨ej, h⟩ := join_lines _ _ _ h
  have e := threefry_four ht (ix1 r)
  rw [(ec _).1, (ec _).2, ek₀, ek₁] at e
  rw [(ej r).1, (ej r).2]
  exact e

/-- The two keys split off a key. -/
theorem split_two {k : TRef sig ⟨S2, .i32⟩} {φ : fn_threefry_split_3.Bufs}
    (h : Fixed V (fn_threefry_split_3.body (F := F) k φ)) (r : Fin 2) :
    (word V φ.v14 (ix2 r 0), word V φ.v14 (ix2 r 1)) = split (key V k) r.val := by
  simp only [fn_threefry_split_3.body, fixed_bind, and_assoc] at h
  obtain ⟨⟨ek₀, ek₁⟩, h⟩ := key_lines _ _ h
  obtain ⟨ec, h⟩ := count_lines (n := 2) _ _ _ _ (by decide) h
  obtain ⟨ht, h⟩ := h
  obtain ⟨ej, h⟩ := join_lines _ _ _ h
  have e := threefry_two ht (ix1 r)
  rw [(ec _).1, (ec _).2, ek₀, ek₁] at e
  rw [(ej r).1, (ej r).2]
  exact e

/-- The random word of the position `i` under the key. -/
def wordAt (k : Key) (i : S128x8192.Idx) : W := bits k.1 k.2 (BitVec.ofNat 32 (8192 * (i 0).val + (i 1).val))

/-- The labels of the reference's program. -/
abbrev Lab (F : FTy → Type) [FloatOps F] [Facts] : Labels := Pipeline.Sig Λ₀ (Fin 0) fun p => (pcfgs (F := F) p).Adm

/-- Cut a key into its words, count the positions, run the generator, and combine its words: the random word of every
    position. -/
theorem words_lines {k : TRef sig ⟨S2, .i32⟩} {s₀ s₁ : TRef sig ⟨S1, .i32⟩} {k₀ k₁ : TRef sig ⟨S_, .i32⟩}
    {v v' p q p' q' s t u : TRef sig ⟨S128x8192, .i64⟩} {c c' d : TRef sig ⟨S_, .i64⟩}
    {lo hi o : TRef sig ⟨S128x8192, .i32⟩} {φ : fn_threefry2x32_0.Bufs} (g0 g1) {he he' hn hn'} (h0 h0' h1 h2 h3)  {R : Prop}
    (h : (Ln nD (Lab F) V (TRef.unary k s₀ (extractStridedSlice S1 ![0] · g0)))
      ∧ (Ln nD (Lab F) V (TRef.reshape s₀ k₀ he hn))
      ∧ (Ln nD (Lab F) V (TRef.unary k s₁ (extractStridedSlice S1 ![1] · g1)))
      ∧ (Ln nD (Lab F) V (TRef.reshape s₁ k₁ he' hn'))
      ∧ (Ln nD (Lab F) V (TRef.nullary v (iotaInDim S128x8192 64 0)))
      ∧ (Ln nD (Lab F) V (TRef.nullary v' (iotaInDim S128x8192 64 1)))
      ∧ (Ln nD (Lab F) V (TRef.nullary c (constantI S_ 64 8192#64)))
      ∧ (Ln nD (Lab F) V (TRef.unary c p (broadcastInDim S128x8192 ![] h0)))
      ∧ (Ln nD (Lab F) V (TRef.binary p v q muli))
      ∧ (Ln nD (Lab F) V (TRef.nullary c' (constantI S_ 64 1#64)))
      ∧ (Ln nD (Lab F) V (TRef.unary c' p' (broadcastInDim S128x8192 ![] h0')))
      ∧ (Ln nD (Lab F) V (TRef.binary p' v' q' muli))
      ∧ (Ln nD (Lab F) V (TRef.binary q q' s addi))
      ∧ (Ln nD (Lab F) V (TRef.nullary d (constantI S_ 64 32#64)))
      ∧ (Ln nD (Lab F) V (TRef.unary d t (broadcastInDim S128x8192 ![] h1)))
      ∧ (Ln nD (Lab F) V (TRef.binary s t u Host.shrui))
      ∧ (Ln nD (Lab F) V (TRef.unary s lo (trunci 32 · h2)))
      ∧ (Ln nD (Lab F) V (TRef.unary u hi (trunci 32 · h3)))
      ∧ Fixed V (fn_threefry2x32_0.body (F := F) k₀ k₁ hi lo φ)
      ∧ (Ln nD (Lab F) V (TRef.binary φ.v171 φ.v175 o xori)) ∧ R) :
    (∀ i, word V o i = wordAt (key V k) i) ∧ R := by
  obtain ⟨⟨ek₀, ek₁⟩, h⟩ := key_lines _ _ h
  obtain ⟨ec, h⟩ := counts_lines _ _ _ _ _ (k := 8192) (by decide) (by decide) h
  obtain ⟨ht, hx, hR⟩ := h
  refine ⟨fun i => ?_, hR⟩
  have e := threefry_all ht i
  rw [(ec _).1, (ec _).2, ek₀, ek₁] at e
  have : rd V o i = word V φ.v171 i ^^^ word V φ.v175 i := by rw [fix_binary hx]; rfl
  exact Eq.trans this (congrArg (fun s : W × W => s.1 ^^^ s.2) e)

end Cert.ReferenceIdeal.Run
-- ==== Proof.UnitFloat.lean ====
/- The float of 23 random bits: the word with these bits as its fraction is one and that many parts of `2^23`, so the
   draw "below the probability" is a comparison of whole numbers. -/
module

public import Idealize.ShloMosaic.Lib.ValueIdx

@[expose] public section

noncomputable section

namespace Cert.UnitFloat

open Idealize.ShloMosaic

/-- The exponent's bits are put beside the fraction's. -/
theorem or_toNat (m : BitVec 32) (h : m.toNat < 2 ^ 23) : (m ||| 1065353216#32).toNat = m.toNat + 1065353216 := by
  have := Nat.two_pow_add_eq_or_of_lt h 127
  rw [BitVec.toNat_or, Nat.or_comm]
  show 2 ^ 23 * 127 ||| m.toNat = _
  omega

/-- The float of the bits `m` under the exponent of one. -/
theorem ofBits_unit (m : BitVec 32) (h : m.toNat < 2 ^ 23) :
    Ideal.ofBits .f32 (m ||| 1065353216#32) = ((1 + (m.toNat : ℝ) / 2 ^ 23 : ℝ) : EReal) := by
  have e := or_toNat m h
  generalize hb : m ||| 1065353216#32 = b at *
  have h0 : (b.extractLsb' 31 1).toNat = 0 := by
    rw [BitVec.extractLsb'_toNat, Nat.shiftRight_eq_div_pow, e]; omega
  have h1 : (b.extractLsb' 23 8).toNat = 127 := by
    rw [BitVec.extractLsb'_toNat, Nat.shiftRight_eq_div_pow, e]; omega
  have h2 : (b.extractLsb' 0 23).toNat = m.toNat := by
    rw [BitVec.extractLsb'_toNat, Nat.shiftRight_eq_div_pow, e]; omega
  have h0' : (b.extractLsb' 31 1 == 1#1) = false := by
    rw [beq_eq_false_iff_ne]; intro hh; rw [hh] at h0; exact absurd h0 (by decide)
  unfold Ideal.ofBits Ideal.ieee
  simp only [h1, h2, h0']
  rw [if_neg (by decide), if_neg (by decide)]
  congr 1
  push_cast
  norm_num
  ring

/-- The float one. -/
theorem ofBits_one : Ideal.ofBits .f32 0x3F800000#32 = ((1 : ℝ) : EReal) := by
  simp [Ideal.ofBits, Ideal.ieee, -EReal.coe_mul]; norm_num

/-- The float zero. -/
theorem ofBits_zero : Ideal.ofBits .f32 0x00000000#32 = ((0 : ℝ) : EReal) := by
  simp [Ideal.ofBits, Ideal.ieee, -EReal.coe_mul]

/-- The three probabilities. -/
theorem ofBits_15 : Ideal.ofBits .f32 0x3E19999A#32 = ((10066330 / 2 ^ 26 : ℝ) : EReal) := by
  simp [Ideal.ofBits, Ideal.ieee, -EReal.coe_mul]; norm_num
/-- The float nearest to 0.8. -/
theorem ofBits_80 : Ideal.ofBits .f32 0x3F4CCCCD#32 = ((13421773 / 2 ^ 24 : ℝ) : EReal) := by
  simp [Ideal.ofBits, Ideal.ieee, -EReal.coe_mul]; norm_num
/-- The float one half. -/
theorem ofBits_50 : Ideal.ofBits .f32 0x3F000000#32 = ((1 / 2 : ℝ) : EReal) := by
  simp [Ideal.ofBits, Ideal.ieee, -EReal.coe_mul]; norm_num

/-- The uniform number of the bits `m`: the float less one, scaled by one and shifted by zero, and not below zero. -/
theorem uniform_value (m : BitVec 32) (h : m.toNat < 2 ^ 23) :
    max ((0 : ℝ) : EReal) ((Ideal.ofBits .f32 (m ||| 1065353216#32) - ((1 : ℝ) : EReal))
      * (((1 : ℝ) : EReal) - ((0 : ℝ) : EReal)) + ((0 : ℝ) : EReal)) = (((m.toNat : ℝ) / 2 ^ 23 : ℝ) : EReal) := by
  rw [ofBits_unit m h, ← EReal.coe_sub, ← EReal.coe_sub, ← EReal.coe_mul, ← EReal.coe_add]
  rw [max_eq_right (EReal.coe_le_coe_iff.mpr ?_)]
  · congr 1; ring
  · have : (0 : ℝ) ≤ (m.toNat : ℝ) / 2 ^ 23 := by positivity
    linarith

/-- The uniform number is below the probability exactly when the bits are below the threshold, the least whole number
    not below the probability's parts of `2^23`. -/
theorem below_iff (m T N k : ℕ) (hT : 2 ^ 23 * N ≤ T * k) (hT' : (T - 1) * k < 2 ^ 23 * N) (hk : 0 < k) :
    (m : ℝ) / 2 ^ 23 < (N : ℝ) / k ↔ m < T := by
  have hk' : (0 : ℝ) < k := by exact_mod_cast hk
  rw [div_lt_div_iff₀ (by positivity) hk']
  have : (m : ℝ) * k < N * 2 ^ 23 ↔ m * k < N * 2 ^ 23 := by exact_mod_cast Iff.rfl
  rw [this]
  constructor
  · intro h
    by_contra hc
    have := Nat.mul_le_mul_right k (Nat.le_of_not_lt hc)
    omega
  · intro h
    have := Nat.mul_le_mul_right k (Nat.le_sub_one_of_lt h)
    omega

end Cert.UnitFloat
-- ==== Proof.RefDraws.lean ====
/- The draws of the reference: the uniform numbers of all positions under a key, whether each is below a probability,
   the three selections between arrays, and the random tokens. -/
module

public import proofs.«01_k».proof.Proof.RefWords
public import proofs.«01_k».proof.Proof.UnitFloat

@[expose] public section

set_option maxRecDepth 20000

noncomputable section

namespace Cert.ReferenceIdeal.Run

open Idealize.ShloMosaic Idealize.SL.Sem Idealize.ShloMosaic.StableHlo Idealize.ShloMosaic.ValueIdx
open Cert.Lines Cert.Threefry Cert.ReferenceIdeal Cert.UnitFloat

variable [Facts] {V : Valuation τ sig (Elt Ideal)}

/-- The 23 random bits of the position under the key. -/
def fracAt (k : Key) (i : S128x8192.Idx) : ℕ := (wordAt k i >>> 9#32).toNat

/-- A draw's 23 bits. -/
theorem fracAt_lt (k : Key) (i : S128x8192.Idx) : fracAt k i < 2 ^ 23 := by
  have := (wordAt k i).isLt
  rw [fracAt, BitVec.ushiftRight_eq', BitVec.toNat_ushiftRight, Nat.shiftRight_eq_div_pow]
  show _ / 2 ^ 9 < _
  omega

/-- The uniform numbers: the position's bits over `2^23`. -/
theorem uniform_value {k : TRef sig ⟨S2, .i32⟩} {a b : TRef sig ⟨S_, .f32⟩} {φ : fn_uniform.Bufs}
    (h : Fixed V (fn_uniform.body (F := Ideal) k a b φ)) (ha : rd V a = constant (F := Ideal) S_ .f32 0x00000000#32)
    (hb : rd V b = constant (F := Ideal) S_ .f32 0x3F800000#32) (i : S128x8192.Idx) :
    rd V φ.v34 i = (((fracAt (key V k) i : ℝ) / 2 ^ 23 : ℝ) : EReal) := by
  simp only [fn_uniform.body, fixed_bind, and_assoc] at h
  obtain ⟨e0, e1, e2, e3, h⟩ := h
  obtain ⟨ew, h⟩ := words_lines _ _ _ _ _ _ _ h
  obtain ⟨e21, e21', e22, e23, e23', e24, e25, e26, e26', e27, e28, e29, e30, e31, e32, e33, e34, -⟩ := h
  have f2 : rd V φ.v2 = constant (F := Ideal) S1x1 .f32 0x00000000#32 := by
    rw [fix_unary e2, fix_unary e0, ha]; rfl
  have f3 : rd V φ.v3 = constant (F := Ideal) S1x1 .f32 0x3F800000#32 := by
    rw [fix_unary e3, fix_unary e1, hb]; rfl
  have f22 : rd V φ.v22 i = wordAt (key V k) i >>> 9#32 := by
    rw [fix_binary e22, fix_unary e21', fix_nullary e21]
    refine (hshrui_apply _ _ i (by show (9#32).toNat < 32; decide)).trans ?_
    exact congrArg (fun x : W => x >>> 9#32) (ew i)
  have f25 : rd V φ.v25 i = Ideal.ofBits .f32 ((wordAt (key V k) i >>> 9#32) ||| 1065353216#32) := by
    rw [fix_unary e25, fix_binary e24, fix_unary e23', fix_nullary e23]
    exact congrArg (fun x : W => Ideal.ofBits .f32 (x ||| 1065353216#32)) f22
  have f27 : rd V φ.v27 i = Ideal.ofBits .f32 ((wordAt (key V k) i >>> 9#32) ||| 1065353216#32) - Ideal.ofBits .f32 0x3F800000#32 := by
    rw [← f25, fix_binary e27, fix_unary e26', fix_nullary e26]; rfl
  have f34 : rd V φ.v34 i = max (Ideal.ofBits .f32 0x00000000#32) (rd V φ.v27 i
      * (Ideal.ofBits .f32 0x3F800000#32 - Ideal.ofBits .f32 0x00000000#32) + Ideal.ofBits .f32 0x00000000#32) := by
    rw [fix_binary e34, fix_unary e33, fix_binary e32, fix_unary e31, fix_binary e30, fix_unary e29, fix_binary e28, f2, f3]
    rfl
  rw [f34, f27, ofBits_one, ofBits_zero]
  exact UnitFloat.uniform_value _ (fracAt_lt _ _)

/-- The draws: whether the position's bits are below the threshold of the probability. -/
theorem bernoulli_value {k : TRef sig ⟨S2, .i32⟩} {p : TRef sig ⟨S_, .f32⟩} {φ : fn_bernoulli.Bufs}
    (h : Fixed V (fn_bernoulli.body (F := Ideal) k p φ)) {w : BitVec 32} {N d T : ℕ} (hp : rd V p = constant (F := Ideal) S_ .f32 w)
    (hw : Ideal.ofBits .f32 w = (((N : ℝ) / d : ℝ) : EReal)) (hT : 2 ^ 23 * N ≤ T * d) (hT' : (T - 1) * d < 2 ^ 23 * N)
    (hd : 0 < d) (i : S128x8192.Idx) :
    rd V φ.v2 i = BitVec.ofBool (decide (fracAt (key V k) i < T)) := by
  simp only [fn_bernoulli.body, fixed_bind, and_assoc] at h
  obtain ⟨e0, e0', hu, e1, e2, -⟩ := h
  have f := uniform_value hu (fix_nullary e0) (fix_nullary e0') i
  have : rd V φ.v2 i = Ideal.cmp .olt (rd V φ.call0.v34 i) (Ideal.ofBits .f32 w) := by
    rw [fix_binary e2, fix_unary e1, hp]; rfl
  rw [this, f, hw]
  refine congrArg BitVec.ofBool (decide_eq_decide.mpr ?_)
  rw [EReal.coe_lt_coe_iff]
  exact below_iff _ T N d hT hT' hd

/-- The selection between an array and a scalar. -/
theorem where_value {c : TRef sig ⟨S128x8192, .i1⟩} {x : TRef sig ⟨S128x8192, .i32⟩} {y : TRef sig ⟨S_, .i32⟩} {φ : fn_where.Bufs}
    (h : Fixed V (fn_where.body (F := Ideal) c x y φ)) (i : S128x8192.Idx) :
    word V φ.v1 i = Scalar.select (rd V c i) (word V x i) (word₀ V y) := by
  simp only [fn_where.body, fixed_bind, and_assoc] at h
  obtain ⟨e0, e1, -⟩ := h
  unfold word
  rw [fix_ternary e1, fix_unary e0]
  exact congrArg (fun z : W => Scalar.select (rd V c i) (word V x i) z) (broadcastInDim_scalar_apply _ (rd V y) i)

/-- The selection between a scalar and an array. -/
theorem where_1_value {c : TRef sig ⟨S128x8192, .i1⟩} {y : TRef sig ⟨S_, .i32⟩} {x : TRef sig ⟨S128x8192, .i32⟩} {φ : fn_where_1.Bufs}
    (h : Fixed V (fn_where_1.body (F := Ideal) c y x φ)) (i : S128x8192.Idx) :
    word V φ.v1 i = Scalar.select (rd V c i) (word₀ V y) (word V x i) := by
  simp only [fn_where_1.body, fixed_bind, and_assoc] at h
  obtain ⟨e0, e1, -⟩ := h
  unfold word
  rw [fix_ternary e1, fix_unary e0]
  exact congrArg (fun z : W => Scalar.select (rd V c i) z (word V x i)) (broadcastInDim_scalar_apply _ (rd V y) i)

/-- The selection between two arrays. -/
theorem where_5_value {c : TRef sig ⟨S128x8192, .i1⟩} {x y : TRef sig ⟨S128x8192, .i32⟩} {φ : fn_where_5.Bufs}
    (h : Fixed V (fn_where_5.body (F := Ideal) c x y φ)) (i : S128x8192.Idx) :
    word V φ.v0 i = Scalar.select (rd V c i) (word V x i) (word V y i) := by
  simp only [fn_where_5.body, fixed_bind, and_assoc] at h
  obtain ⟨e1, -⟩ := h
  unfold word
  rw [fix_ternary e1]; rfl

/-- The token of the position under a key: the words under the two keys split off it, taken as the two digits of a
    number in the base `2^32`, so far as its remainder by 30522 goes (`3022` is the square of `2^16`'s remainder). -/
def tokenAt (k : Key) (i : S128x8192.Idx) : W :=
  (wordAt (split k 0) i % 30522#32 * 3022#32 + wordAt (split k 1) i % 30522#32) % 30522#32

/-- A constant clipped, of constants. -/
theorem clip_const {S : Shape} (a b c : W) : minsi (constantI S 32 a) (maxsi (constantI S 32 b) (constantI S 32 c))
    = constantI S 32 (IntOp.minsi a (IntOp.maxsi b c)) := rfl

/-- Every word lies between the least and the greatest. -/
theorem clip_range (a : W) (h : (2147483648#32).slt a = true) (h' : (2147483647#32).slt a = false) :
    IntOp.minsi 2147483647#32 (IntOp.maxsi 2147483648#32 a) = a := by
  have : IntOp.maxsi 2147483648#32 a = a := by
    unfold IntOp.maxsi; split
    · rename_i h''; exact absurd h'' (by
        rw [Bool.not_eq_true]; rw [BitVec.slt_eq_decide] at h ⊢; simp at h ⊢; omega)
    · rfl
  rw [this, IntOp.minsi, h']; rfl

/-- The span of constants. -/
theorem span_const {S : Shape} (a b : W) {h} (hab : a.sle b = false) :
    select (cmpi .sle (constantI S 32 a) (constantI S 32 b)) (broadcastInDim S ![] h (constantI S_ 32 1#32))
      (id (subi (constantI S 32 a) (constantI S 32 b))) = constantI S 32 (a - b) := by
  funext j
  show Scalar.select (BitVec.ofBool (a.sle b)) _ _ = _
  rw [hab]; rfl

/-- The random tokens, of the numbers from 0 up to 30522. -/
theorem randint_value {k : TRef sig ⟨S2, .i32⟩} {a b : TRef sig ⟨S_, .i32⟩} {φ : fn_randint.Bufs}
    (h : Fixed V (fn_randint.body (F := Ideal) k a b φ)) (ha : rd V a = constantI S_ 32 0#32)
    (hb : rd V b = constantI S_ 32 30522#32) (i : S128x8192.Idx) :
    word V φ.v73 i = tokenAt (key V k) i := by
  simp only [fn_randint.body, fn_randint.body_part0, fn_randint.body_part1, fn_clip.body, fn_clip_2.body, fixed_bind,
    and_assoc] at h
  obtain ⟨ec, ec0, ec1, eq0, eq1, -, e1, ec2, ec3, eq2, eq3, -, e3, ec4, ec5, eq4, eq5, -, e5, e6, e7, hs, h⟩ := h
  replace h := row_lines (n := 2) (r := 0) (by decide) _ h
  obtain ⟨er0, h⟩ := h
  replace h := row_lines (n := 2) (r := 1) (by decide) _ h
  obtain ⟨er1, h⟩ := h
  replace h := words_lines _ _ _ _ _ _ _ h
  obtain ⟨ew0, h⟩ := h
  replace h := words_lines _ _ _ _ _ _ _ h
  obtain ⟨ew1, h⟩ := h
  obtain ⟨e47, e48, e49, e50, e50', e51, e52, e53, e54, e55, e55', e56, e57, e58, e58', e59, e60, e61, e62, e63, e64, e65,
    e66, e67, e68, e69, e70, e71, e72, e73, -⟩ := h
  have k0 : key V φ.v10 = split (key V k) 0 := by
    exact (congrArg₂ Prod.mk (er0 0) (er0 1)).trans (split_two hs 0)
  have k1 : key V φ.v12 = split (key V k) 1 := by
    exact (congrArg₂ Prod.mk (er1 0) (er1 1)).trans (split_two hs 1)
  have f1 : rd V φ.v1 = constantI S_ 1 0#1 := by
    rw [fix_binary e1, fix_binary eq1, fix_binary eq0, fix_nullary ec, fix_nullary ec0, fix_nullary ec1, hb]
    exact funext fun _ => (by decide : IntOp.cmpi .sgt 30522#32 (IntOp.minsi 2147483647#32 (IntOp.maxsi 2147483648#32 2147483647#32)) = 0#1)
  have f6 : rd V φ.v6 = constantI S1x1 32 0#32 := by
    rw [fix_unary e6, fix_unary e3, fix_binary eq3, fix_binary eq2, fix_nullary ec2, fix_nullary ec3, ha, clip_const, clip_range _ (by decide) (by decide)]
    exact rfl
  have f7 : rd V φ.v7 = constantI S1x1 32 30522#32 := by
    rw [fix_unary e7, fix_unary e5, fix_binary eq5, fix_binary eq4, fix_nullary ec4, fix_nullary ec5, hb, clip_const, clip_range _ (by decide) (by decide)]
    exact rfl
  have f51 : rd V φ.v51 = constantI S1x1 32 30522#32 := by
    rw [fix_ternary e51, fix_binary e49, fix_unary e50', fix_nullary e50, fix_unary e48, fix_binary e47, f6, f7]
    exact span_const _ _ (by decide)
  have f57 : rd V φ.v57 = constantI S1x1 32 30522#32 := by
    rw [fix_ternary e57, fix_binary e54, fix_unary e53, fix_binary e52, f1, f6, f7, f51]
    funext j
    show Scalar.select (IntOp.andi 0#1 (IntOp.cmpi .sgt 30522#32 0#32)) _ _ = _
    rw [show IntOp.andi 0#1 (IntOp.cmpi .sgt 30522#32 0#32) = 0#1 by decide]
    exact select_zero _ _
  have f61 : rd V φ.v61 = constantI S1x1 32 3022#32 := by
    rw [fix_binary e61, fix_binary e60, fix_binary e59, fix_unary e58', fix_nullary e58, f57]
    exact funext fun _ => (by decide : IntOp.remui .host (IntOp.muli (IntOp.remui .host 65536#32 30522#32)
      (IntOp.remui .host 65536#32 30522#32)) 30522#32 = 3022#32)
  have f63 : rd V φ.v63 i = wordAt (split (key V k) 0) i % 30522#32 := by
    rw [fix_binary e63, fix_unary e62, f57, ← k0, ← ew0]; rfl
  have f67 : rd V φ.v67 i = wordAt (split (key V k) 1) i % 30522#32 := by
    rw [fix_binary e67, fix_unary e66, f57, ← k1, ← ew1]; rfl
  have f70 : rd V φ.v70 i = ((rd V φ.v63 i : W) * 3022#32 + (rd V φ.v67 i : W)) % 30522#32 := by
    rw [fix_binary e70, fix_unary e69, fix_binary e68, fix_binary e65, fix_unary e64, f57, f61]; rfl
  have f73 : word V φ.v73 i = 0#32 + (rd V φ.v70 i : W) := by
    unfold word
    rw [fix_binary e73, fix_unary e72, fix_unary e71, f6]; rfl
  rw [f73, f70, f63, f67, BitVec.zero_add]; rfl

end Cert.ReferenceIdeal.Run
-- ==== Proof.RefResult.lean ====
/- What the reference returns, position by position: which positions are masked, which of them take the mask's token,
   which a random one, and the two results. -/
module

public import proofs.«01_k».proof.Proof.RefDraws

@[expose] public section

set_option maxRecDepth 20000

noncomputable section

namespace Cert.ReferenceIdeal.Run

open Idealize.ShloMosaic Idealize.SL.Sem Idealize.ShloMosaic.StableHlo Idealize.ShloMosaic.ValueIdx
open Cert.Lines Cert.Threefry Cert.ReferenceIdeal Cert.UnitFloat
open Cert.ReferenceIdeal.Facts₀ Cert.ReferenceIdeal.Facts

variable [Facts] {V : Valuation τ sig (Elt Ideal)}

/-- The four keys, split off the key of the seed 42. -/
def key₄ (r : ℕ) : Key := split (0#32, 42#32) r

/-- Whether the position is masked. -/
def maskedAt (i : S128x8192.Idx) : BitVec 1 := BitVec.ofBool (decide (fracAt (key₄ 0) i < 1258292))

/-- Whether the position, if it is masked, takes the mask's token. -/
def fixedAt (i : S128x8192.Idx) : BitVec 1 := BitVec.ofBool (decide (fracAt (key₄ 1) i < 6710887))

/-- Whether the position, if it is masked and does not take the mask's token, takes a random one. -/
def randomAt (i : S128x8192.Idx) : BitVec 1 := BitVec.ofBool (decide (fracAt (key₄ 2) i < 4194304))

/-- The label of a position that holds `x`. -/
def labelAt (i : S128x8192.Idx) (x : W) : W := Scalar.select (maskedAt i) x 4294967196#32

/-- What the position that holds `x` is replaced by. -/
def idAt (i : S128x8192.Idx) (x : W) : W :=
  Scalar.select ((randomAt i &&& maskedAt i) &&& ~~~(fixedAt i &&& maskedAt i)) (tokenAt (key₄ 3) i)
    (Scalar.select (fixedAt i &&& maskedAt i) 103#32 x)

/-- The first key: the two words of the seed. -/
theorem key_seed {a b d : TRef sig ⟨S_, .i32⟩} {e g : TRef sig ⟨S1, .i32⟩} {k : TRef sig ⟨S2, .i32⟩} {h0 h1} {h2}
    {s0 s1 s2 s3 : TRef sig ⟨S_, .i32⟩} (hc : rd V s0 = constantI S_ 32 42#32) (hc0 : rd V s1 = constantI S_ 32 32#32)
    (ha : rd V a = Host.shrui (rd V s0) (rd V s1)) (hb : rd V b = id (rd V a))
    (he : rd V e = broadcastInDim S1 ![] h0 (rd V b)) (hc1 : rd V s2 = constantI S_ 32 4294967295#32)
    (hs3 : rd V s3 = andi (rd V s0) (rd V s2)) (hd : rd V d = id (rd V s3))
    (hg : rd V g = broadcastInDim S1 ![] h1 (rd V d))
    (hk : rd V k = concatenate S2 0 [⟨S1, rd V e⟩, ⟨S1, rd V g⟩] h2) : key V k = (0#32, 42#32) := by
  have f0 : rd V e = constantI S1 32 0#32 := by
    rw [he, hb, ha, hc, hc0]
    exact funext fun _ => (by decide : IntOp.shrui .host 42#32 32#32 = 0#32)
  have f1 : rd V g = constantI S1 32 42#32 := by
    rw [hg, hd, hs3, hc, hc1]
    exact funext fun _ => (by decide : IntOp.andi 42#32 4294967295#32 = 42#32)
  unfold key word
  rw [hk, f0, f1]
  refine congrArg₂ Prod.mk ?_ ?_
  · exact concatenate_pair_apply_left (t := S2) (s₁ := S1) (s₂ := S1) 0 _ _ h2 (ix1 0) rfl (ix1 (0 : Fin 1)) fun b => by
      match b with
      | ⟨0, _⟩ => rfl
  · exact concatenate_pair_apply_right (t := S2) (s₁ := S1) (s₂ := S1) 0 _ _ h2 (ix1 1) rfl rfl (ix1 (0 : Fin 1))
      (fun b hb => by match b with
        | ⟨0, _⟩ => exact absurd rfl hb) rfl

/-- The reference's labels and replaced ids, of what its argument holds. -/
theorem results {d : Dev nD} (h : Fixed V (main (F := Ideal) d)) (i : S128x8192.Idx) :
    word V (.of main_v17) i = labelAt i (word V (.of main_arg0) i) ∧ word V (.of main_v26) i = idAt i (word V (.of main_arg0) i) := by
  simp only [main, fixed_bind] at h
  obtain ⟨ec, ec0, e0, e1, e2, ec1, e3, e4, e5, e6, hs, h⟩ := h
  have k6 : key V (.of main_v6) = (0#32, 42#32) := by
    have f0 : rd V (.of main_c) = constantI S_ 32 42#32 := fix_nullary ec
    have f1 : rd V (.of main_c_0) = constantI S_ 32 32#32 := fix_nullary ec0
    have f2 : rd V (.of main_v0) = Host.shrui (rd V (.of main_c)) (rd V (.of main_c_0)) := fix_binary e0
    have f3 : rd V (.of main_v1) = id (rd V (.of main_v0)) := fix_unary e1
    have f4 : rd V (.of main_v2) = broadcastInDim S1 ![] bcast_S_S1 (rd V (.of main_v1)) := fix_unary e2
    have f5 : rd V (.of main_c_1) = constantI S_ 32 4294967295#32 := fix_nullary ec1
    have f6 : rd V (.of main_v3) = andi (rd V (.of main_c)) (rd V (.of main_c_1)) := fix_binary e3
    have f7 : rd V (.of main_v4) = id (rd V (.of main_v3)) := fix_unary e4
    have f8 : rd V (.of main_v5) = broadcastInDim S1 ![] bcast_S_S1 (rd V (.of main_v4)) := fix_unary e5
    have f9 := fix_binary (f := fun (a b : (⟨S1, .i32⟩ : BufTy).Contents (Elt Ideal)) =>
        (concatenate S2 0 [⟨S1, a⟩, ⟨S1, b⟩] concatenates_S1_S1_S2_d0 : (⟨S2, .i32⟩ : BufTy).Contents (Elt Ideal)))
        (a := (.of main_v2 : TRef sig ⟨S1, .i32⟩)) (b := (.of main_v5 : TRef sig ⟨S1, .i32⟩))
        (y := (.of main_v6 : TRef sig ⟨S2, .i32⟩)) e6
    exact key_seed f0 f1 f2 f3 f4 f5 f6 f7 f8 f9
  have hk (r : Fin 4) : (word V (.of main_v7 : TRef sig ⟨S4x2, .i32⟩) (ix2 r 0), word V (.of main_v7 : TRef sig ⟨S4x2, .i32⟩) (ix2 r 1))
      = key₄ r.val := by
    refine (split_four hs r).trans ?_
    exact congrArg (split · r.val) k6
  clear k6 hs ec ec0 e0 e1 e2 ec1 e3 e4 e5 e6
  replace h := row_lines (A := (.of main_v7 : TRef sig ⟨S4x2, .i32⟩)) (s := (.of main_v8 : TRef sig ⟨S1x2, .i32⟩))
    (k := (.of main_v9 : TRef sig ⟨S2, .i32⟩)) (n := 4) (r := 0) (he := rfl) (hn := shapeCasts_S1x2_S2) (by decide)
    slices_S4x2_S1x2_0_0 h
  obtain ⟨r0, h⟩ := h
  replace h := row_lines (A := (.of main_v7 : TRef sig ⟨S4x2, .i32⟩)) (s := (.of main_v10 : TRef sig ⟨S1x2, .i32⟩))
    (k := (.of main_v11 : TRef sig ⟨S2, .i32⟩)) (n := 4) (r := 1) (he := rfl) (hn := shapeCasts_S1x2_S2) (by decide)
    slices_S4x2_S1x2_1_0 h
  obtain ⟨r1, h⟩ := h
  replace h := row_lines (A := (.of main_v7 : TRef sig ⟨S4x2, .i32⟩)) (s := (.of main_v12 : TRef sig ⟨S1x2, .i32⟩))
    (k := (.of main_v13 : TRef sig ⟨S2, .i32⟩)) (n := 4) (r := 2) (he := rfl) (hn := shapeCasts_S1x2_S2) (by decide)
    slices_S4x2_S1x2_2_0 h
  obtain ⟨r2, h⟩ := h
  replace h := row_lines (A := (.of main_v7 : TRef sig ⟨S4x2, .i32⟩)) (s := (.of main_v14 : TRef sig ⟨S1x2, .i32⟩))
    (k := (.of main_v15 : TRef sig ⟨S2, .i32⟩)) (n := 4) (r := 3) (he := rfl) (hn := shapeCasts_S1x2_S2) (by decide)
    slices_S4x2_S1x2_3_0 h
  obtain ⟨r3, h⟩ := h
  have k0 : key V (.of main_v9) = key₄ 0 := (congrArg₂ Prod.mk (r0 0) (r0 1)).trans (hk 0)
  have k1 : key V (.of main_v11) = key₄ 1 := (congrArg₂ Prod.mk (r1 0) (r1 1)).trans (hk 1)
  have k2 : key V (.of main_v13) = key₄ 2 := (congrArg₂ Prod.mk (r2 0) (r2 1)).trans (hk 2)
  have k3 : key V (.of main_v15) = key₄ 3 := (congrArg₂ Prod.mk (r3 0) (r3 1)).trans (hk 3)
  obtain ⟨ep0, eb0, en, ew0, ep1, eb1, e19, em, ew1, ep2, eb2, e22, e23, e24, elo, ehi, er, ew2, -⟩ := h
  have m0 : rd V (.of main_v16) i = maskedAt i :=
    (bernoulli_value (N := 10066330) (d := 2 ^ 26) (T := 1258292) eb0 (fix_nullary ep0)
      (ofBits_15.trans (by norm_num)) (by norm_num) (by norm_num) (by norm_num) i).trans (by rw [k0]; rfl)
  have m1 : rd V (.of main_v18) i = fixedAt i :=
    (bernoulli_value (N := 13421773) (d := 2 ^ 24) (T := 6710887) eb1 (fix_nullary ep1)
      (ofBits_80.trans (by norm_num)) (by norm_num) (by norm_num) (by norm_num) i).trans (by rw [k1]; rfl)
  have m2 : rd V (.of main_v21) i = randomAt i :=
    (bernoulli_value (N := 1) (d := 2) (T := 4194304) eb2 (fix_nullary ep2)
      (ofBits_50.trans (by norm_num)) (by norm_num) (by norm_num) (by norm_num) i).trans (by rw [k2]; rfl)
  have n1 : rd V (.of main_v19) i = fixedAt i &&& maskedAt i := by
    rw [show rd V (.of main_v19) = andi (rd V (.of main_v18)) (rd V (.of main_v16)) from fix_binary e19, ← m0, ← m1]; rfl
  have n2 : rd V (.of main_v24) i = (randomAt i &&& maskedAt i) &&& ~~~(fixedAt i &&& maskedAt i) := by
    rw [show rd V (.of main_v24) = andi (rd V (.of main_v22)) (rd V (.of main_v23)) from fix_binary e24,
      show rd V (.of main_v23) = noti (rd V (.of main_v19)) from fix_unary e23,
      show rd V (.of main_v22) = andi (rd V (.of main_v21)) (rd V (.of main_v16)) from fix_binary e22, ← m0, ← m2, m0, ← n1, ← m0]; rfl
  have c2 : word₀ V (.of main_c_2) = 4294967196#32 := by
    have : rd V (.of main_c_2) = constantI S_ 32 4294967196#32 := fix_nullary en
    exact congrFun this ix0
  have c4 : word₀ V (.of main_c_4) = 103#32 := by
    have : rd V (.of main_c_4) = constantI S_ 32 103#32 := fix_nullary em
    exact congrFun this ix0
  constructor
  · refine (where_value ew0 i).trans ?_
    rw [c2, m0]; rfl
  · have t : word V (.of main_v25) i = tokenAt (key₄ 3) i :=
      (randint_value er (fix_nullary elo) (fix_nullary ehi) i).trans (by rw [k3])
    have v : word V (.of main_v20) i = Scalar.select (fixedAt i &&& maskedAt i) 103#32 (word V (.of main_arg0) i) := by
      refine (where_1_value ew1 i).trans ?_
      rw [c4, n1]
    refine (where_5_value ew2 i).trans ?_
    rw [n2, t, v]; rfl

end Cert.ReferenceIdeal.Run
-- ==== Proof.KernelTable.lean ====
/- What the table kernel stores at one position: the code of the position, in terms of the reference's random words. -/
module

public import proofs.«01_k».proof.Proof.KernelWords
public import proofs.«01_k».proof.Proof.RefResult
public import Idealize.ShloMosaic.Lib.Pipeline.ValueKit

@[expose] public section

set_option maxRecDepth 20000

noncomputable section

namespace Cert.KernelIdeal.Run

open Idealize.ShloMosaic Cert.KernelIdeal Cert.KernelIdeal.Gen Cert.Threefry Cert.ModSpan
open Cert.ReferenceIdeal.Run

/-- The code of a position whose first mask is `m`, whose second draw is `f`, whose third is `r` and whose token is `t`:
    the mask's token, the random token, 30522 for a masked position that keeps its id, 30523 for one that is not masked. -/
def code (m f r : BitVec 1) (t : W) : W :=
  Scalar.select ((m &&& f) ||| (m &&& ((m &&& f) ^^^ 1#1) &&& r)) (Scalar.select (m &&& f) 103#32 t)
    (Scalar.select m 30522#32 30523#32)

/-- The code the table holds at the position `p`. -/
def codeAt (p : S128x8192.Idx) : W := code (maskedAt p) (fixedAt p) (randomAt p) (tokenAt (key₄ 3) p)

/-- The position's index. -/
theorem index_value (i : grid0.Coords) (j : S8x8192.Idx) (p : S128x8192.Idx)
    (h0 : (p 0).val = 8 * (i 0).val + (j 0).val) (h1 : (p 1).val = (j 1).val) :
    k0_pay2 i j = BitVec.ofNat 32 (8192 * (p 0).val + (p 1).val) := by
  have hi : (i 0).val < 16 := (i 0).isLt
  have hj : (j 0).val < 8 := (j 0).isLt
  have hl : (j 1).val < 8192 := (j 1).isLt
  have e : k0_pay2 i j = BitVec.ofNat 32 (i 0).val * 65536#32 + BitVec.ofNat 32 (j 0).val * 8192#32 + BitVec.ofNat 32 (j 1).val := by
    simp only [k0_pay2, addi_apply, muli_apply, ValueIdx.broadcast_apply, iota_apply, IntOp.addi, IntOp.muli, List.foldl_cons,
      List.foldl_nil, Nat.zero_mul, Nat.zero_add]
    rfl
  rw [e, h0, h1]
  apply BitVec.eq_of_toNat_eq
  simp only [BitVec.toNat_add, BitVec.toNat_mul, BitVec.toNat_ofNat]
  omega

/-- The keys the kernel holds are the four keys of the seed, the last one split again. -/
theorem key_masked : key₄ 0 = (1832780943#32, 270669613#32) := by decide +kernel

/-- The key of the second draw. -/
theorem key_fixed : key₄ 1 = (64467757#32, 2916123636#32) := by decide +kernel

/-- The key of the third draw. -/
theorem key_random : key₄ 2 = (2465931498#32, 255383827#32) := by decide +kernel

/-- The key of the token's first word. -/
theorem key_high : Cert.ReferenceIdeal.Run.split (key₄ 3) 0 = (2463158877#32, 4047937370#32) := by decide +kernel

/-- The key of the token's second word. -/
theorem key_low : Cert.ReferenceIdeal.Run.split (key₄ 3) 1 = (1914800406#32, 1741898942#32) := by decide +kernel

/-- A word shifted by 9 is compared as a natural number. -/
theorem draw_lt (x : W) (b : W) (n : ℕ) (hb : b.toNat = n) (hn : n < 2 ^ 31) :
    IntOp.cmpi .slt (x >>> 9#32) b = BitVec.ofBool (decide ((x >>> 9#32).toNat < n)) := by
  refine congrArg BitVec.ofBool ?_
  have hx : (x >>> 9#32).toNat < 2 ^ 31 := by
    have := x.isLt
    rw [BitVec.ushiftRight_eq', BitVec.toNat_ushiftRight, Nat.shiftRight_eq_div_pow, show (9#32).toNat = 9 by decide]
    omega
  show BitVec.slt _ _ = _
  rw [BitVec.slt_eq_decide, BitVec.toInt_eq_toNat_of_lt (by omega), BitVec.toInt_eq_toNat_of_lt (by omega), hb]
  exact decide_eq_decide.mpr Int.ofNat_lt

/-- The kernel's stored block at the place `j` of the grid's point `i`: the position's code, in 16 bits. -/
theorem out0_value (i : grid0.Coords) (j : S8x8192.Idx) (p : S128x8192.Idx)
    (h0 : (p 0).val = 8 * (i 0).val + (j 0).val) (h1 : (p 1).val = (j 1).val) :
    out0_0 (F := Ideal) i j = (codeAt p).setWidth 16 := by
  have hx : ∀ k : Cert.ReferenceIdeal.Run.Key, Cert.ReferenceIdeal.Run.wordAt k p = bits k.1 k.2 (k0_pay2 i j) := fun k => by
    rw [index_value i j p h0 h1]; rfl
  have hm : k0_pay213 i j = maskedAt p := by
    rw [masked_value i j _ rfl, draw_lt _ _ 1258292 rfl (by decide), maskedAt, fracAt, hx, key_masked]
  have hf : k0_pay218 i j = maskedAt p &&& fixedAt p := by
    rw [fixed_value i j _ rfl, hm, draw_lt _ _ 6710887 rfl (by decide), fixedAt, fracAt, hx, key_fixed]
  have hr : IntOp.cmpi .slt (k0_pay122 (k0_pay119 (k0_pay222 i) (k0_pay223 i)) (k0_pay120 (k0_pay222 i) (k0_pay223 i)) (k0_pay121 (k0_pay222 i) (k0_pay223 i)) j) 4194304#32 = randomAt p := by
    rw [random_value i j _ rfl, draw_lt _ _ 4194304 rfl (by decide), randomAt, fracAt, hx, key_random]
  have ht : token (bits 2463158877#32 4047937370#32 (k0_pay2 i j)) (bits 1914800406#32 1741898942#32 (k0_pay2 i j)) = tokenAt (key₄ 3) p := by
    rw [token_eq, tokenAt, hx, hx, key_high, key_low]
  rw [codeAt, code, ← ht, ← hr, ← hf, ← hm, token, ← high_value i j _ rfl, ← low_value i j _ rfl]
  rw [out0_0]
  frame_out
  simp (disch := decide) only [k0_pay1, k0_pay123, k0_pay202, k0_pay203, k0_pay241, k0_pay242, k0_pay200, k0_pay201,
      shl_plain, shr_plain, sar_plain, addi_apply, subi_apply, muli_apply, xori_apply, ori_apply, andi_apply, shli_apply,
      shrui_apply, shrsi_apply, cmpi_apply, ValueIdx.broadcast_apply, IntOp.addi, IntOp.subi, IntOp.muli, IntOp.xori,
      IntOp.ori, IntOp.andi, rem, corrected, quo, fold, sitofp_real]
  rfl

end Cert.KernelIdeal.Run
-- ==== Proof.KernelArrays.lean ====
/- What the kernel's two arrays hold: the table's codes, and the results selected from the argument by them. -/
module

public import proofs.«01_k».proof.Proof.KernelTable

@[expose] public section

set_option maxRecDepth 20000

noncomputable section

namespace Cert.KernelIdeal.Run

open Idealize.SL Idealize.SL.Sem
open Idealize.ShloMosaic Cert.KernelIdeal Cert.KernelIdeal.Gen Cert.Threefry
open Cert.ReferenceIdeal.Run

/-- The index maps: every window's block is the rows of its grid point. -/
theorem index0_0 : ∀ t, win0_0.index t = ![(grid0.coords t 0).val, 0] := by decide +kernel

/-- The argument's window. -/
theorem index1_0 : ∀ t, win1_0.index t = ![(grid1.coords t 0).val, 0] := by decide +kernel

/-- The table's window. -/
theorem index1_1 : ∀ t, win1_1.index t = ![(grid1.coords t 0).val, 0] := by decide +kernel

/-- The ids' window. -/
theorem index1_2 : ∀ t, win1_2.index t = ![(grid1.coords t 0).val, 0] := by decide +kernel

/-- The labels' window. -/
theorem index1_3 : ∀ t, win1_3.index t = ![(grid1.coords t 0).val, 0] := by decide +kernel

variable (V : (c : Dev nD) → (b : Ref sig .tc) → Buf (Elt Ideal) (c.tc.loc b)) (c : Dev nD)

/-- The table after its region: every position's code. -/
theorem table_arr : (dat0 V c).arrAt 0 cfg0.N = fun p : S128x8192.Idx => (codeAt p).setWidth 16 := by
  refine (dat0 V c).arrAt_eq_of_covers 0 _ (by decide +kernel) fun t hf y => ?_
  blk_simp
  rw [after0_0]
  refine out0_value _ _ _ ?_ ?_
  · blk_simp [index0_0]
    omega
  · blk_simp [index0_0]

/-- The label selected from an id by a code in 16 bits. -/
def labelOf (x : W) (e : BitVec 16) : W := Scalar.select (IntOp.cmpi .eq (e.signExtend 32) 30523#32) 4294967196#32 x

/-- The id selected by a code in 16 bits. -/
def idOf (x : W) (e : BitVec 16) : W := Scalar.select (IntOp.cmpi .slt (e.signExtend 32) 30522#32) (e.signExtend 32) x

/-- The body's two stores at a place, of what its two loads hold there. -/
theorem out1_2_value (x0 : Vec Ideal S64x8192 .i32) (x1 : Vec Ideal S64x8192 .i16) (y : S64x8192.Idx) :
    out1_2 (F := Ideal) x0 x1 y = idOf (x0 y) (x1 y) := by
  rw [out1_2]
  frame_out
  simp only [k1_pay3, k1_pay1, shapeCast_id]
  rfl

/-- The second store: the label. -/
theorem out1_3_value (x0 : Vec Ideal S64x8192 .i32) (x1 : Vec Ideal S64x8192 .i16) (y : S64x8192.Idx) :
    out1_3 (F := Ideal) x0 x1 y = labelOf (x0 y) (x1 y) := by
  rw [out1_3]
  frame_out
  simp only [k1_pay2, k1_pay1, shapeCast_id]
  rfl

/-- The results after the second region: each position's id, selected by its code. -/
theorem ids_arr : (dat1 V c).arrAt 2 cfg1.N =
    fun p : S128x8192.Idx => idOf ((V c main_arg0 : IVec S128x8192 32) p) ((V c main_v0 : IVec S128x8192 16) p) := by
  refine (dat1 V c).arrAt_eq_of_covers 2 _ (by decide +kernel) fun t hf y => ?_
  blk_simp
  rw [after1_2]
  refine (out1_2_value _ _ _).trans (congrArg₂ idOf ?_ ?_)
  · blk_ext [iblk1, index1_0, index1_2]
  · blk_ext [iblk1, index1_1, index1_2]

/-- And each position's label. -/
theorem labels_arr : (dat1 V c).arrAt 3 cfg1.N =
    fun p : S128x8192.Idx => labelOf ((V c main_arg0 : IVec S128x8192 32) p) ((V c main_v0 : IVec S128x8192 16) p) := by
  refine (dat1 V c).arrAt_eq_of_covers 3 _ (by decide +kernel) fun t hf y => ?_
  blk_simp
  rw [after1_3]
  refine (out1_3_value _ _ _).trans (congrArg₂ labelOf ?_ ?_)
  · blk_ext [iblk1, index1_0, index1_3]
  · blk_ext [iblk1, index1_1, index1_3]

end Cert.KernelIdeal.Run
-- ==== Proof.KernelResult.lean ====
/- The kernel's results are the reference's: a code selects what the reference's masks select. -/
module

public import proofs.«01_k».proof.Proof.KernelArrays

@[expose] public section

set_option maxRecDepth 20000

noncomputable section

namespace Cert.KernelIdeal.Run

open Idealize.SL Idealize.SL.Sem
open Idealize.ShloMosaic Cert.KernelIdeal Cert.KernelIdeal.Gen Cert.Threefry
open Cert.ReferenceIdeal.Run

/-- A token fits in 16 bits with its sign. -/
theorem extend_token (t : W) (h : t.toNat < 30522) : (t.setWidth 16).signExtend 32 = t := by
  apply BitVec.eq_of_toInt_eq
  rw [BitVec.toInt_signExtend_of_le (by decide), BitVec.toInt_eq_toNat_of_lt (x := t) (by omega),
    BitVec.toInt_eq_toNat_of_lt (by rw [BitVec.toNat_setWidth]; omega), BitVec.toNat_setWidth]
  omega

/-- A token is below the code of a masked position that keeps its id. -/
theorem token_slt (t : W) (h : t.toNat < 30522) : IntOp.cmpi .slt t 30522#32 = 1#1 := by
  show BitVec.ofBool (BitVec.slt t 30522#32) = BitVec.ofBool true
  refine congrArg BitVec.ofBool ?_
  rw [BitVec.slt_eq_decide, BitVec.toInt_eq_toNat_of_lt (x := t) (by omega), show (30522#32).toInt = 30522 by decide]
  exact decide_eq_true (Int.ofNat_lt.mpr h)

/-- A token is not the code of an unmasked position. -/
theorem token_ne (t : W) (h : t.toNat < 30522) : IntOp.cmpi .eq t 30523#32 = 0#1 := by
  show BitVec.ofBool (t == 30523#32) = BitVec.ofBool false
  refine congrArg BitVec.ofBool (beq_eq_false_iff_ne.mpr ?_)
  rintro rfl
  exact absurd h (by decide)

/-- A one-bit word is 0 or 1. -/
theorem bit_cases (b : BitVec 1) : b = 0#1 ∨ b = 1#1 := by
  revert b; decide

/-- What each code selects as the label. -/
theorem labelOf_fixed (x : W) : labelOf x ((103#32).setWidth 16) = x :=
  congrArg (Scalar.select · 4294967196#32 x) (by decide : IntOp.cmpi .eq (((103#32).setWidth 16).signExtend 32) 30523#32 = 0#1)

/-- A masked position that keeps its id has its id as the label. -/
theorem labelOf_kept (x : W) : labelOf x ((30522#32).setWidth 16) = x :=
  congrArg (Scalar.select · 4294967196#32 x) (by decide : IntOp.cmpi .eq (((30522#32).setWidth 16).signExtend 32) 30523#32 = 0#1)

/-- An unmasked position has the label −100. -/
theorem labelOf_unmasked (x : W) : labelOf x ((30523#32).setWidth 16) = 4294967196#32 :=
  congrArg (Scalar.select · 4294967196#32 x) (by decide : IntOp.cmpi .eq (((30523#32).setWidth 16).signExtend 32) 30523#32 = 1#1)

/-- A masked position that takes a token has its id as the label. -/
theorem labelOf_token (t x : W) (h : t.toNat < 30522) : labelOf x (t.setWidth 16) = x := by
  rw [labelOf, extend_token t h, token_ne t h]
  exact ValueIdx.select_zero _ _

/-- What each code selects as the id. -/
theorem idOf_token (t x : W) (h : t.toNat < 30522) : idOf x (t.setWidth 16) = t := by
  rw [idOf, extend_token t h, token_slt t h]
  exact ValueIdx.select_one _ _

/-- A masked position that keeps its id. -/
theorem idOf_kept (x : W) : idOf x ((30522#32).setWidth 16) = x :=
  congrArg (Scalar.select · (((30522#32).setWidth 16).signExtend 32) x)
    (by decide : IntOp.cmpi .slt (((30522#32).setWidth 16).signExtend 32) 30522#32 = 0#1)

/-- An unmasked position keeps its id. -/
theorem idOf_unmasked (x : W) : idOf x ((30523#32).setWidth 16) = x :=
  congrArg (Scalar.select · (((30523#32).setWidth 16).signExtend 32) x)
    (by decide : IntOp.cmpi .slt (((30523#32).setWidth 16).signExtend 32) 30522#32 = 0#1)

/-- The label a code selects: the id where the position is masked, −100 elsewhere. -/
theorem labelOf_code (m f r : BitVec 1) (t x : W) (h : t.toNat < 30522) :
    labelOf x ((code m f r t).setWidth 16) = Scalar.select m x 4294967196#32 := by
  rcases bit_cases m with rfl | rfl
  · rcases bit_cases f with rfl | rfl <;> rcases bit_cases r with rfl | rfl <;> exact labelOf_unmasked x
  rcases bit_cases f with rfl | rfl
  · rcases bit_cases r with rfl | rfl
    · exact labelOf_kept x
    · exact labelOf_token t x h
  · rcases bit_cases r with rfl | rfl <;> exact labelOf_fixed x

/-- The id a code selects. -/
theorem idOf_code (m f r : BitVec 1) (t x : W) (h : t.toNat < 30522) :
    idOf x ((code m f r t).setWidth 16)
      = Scalar.select ((r &&& m) &&& ~~~(f &&& m)) t (Scalar.select (f &&& m) 103#32 x) := by
  rcases bit_cases m with rfl | rfl
  · rcases bit_cases f with rfl | rfl <;> rcases bit_cases r with rfl | rfl <;> exact idOf_unmasked x
  rcases bit_cases f with rfl | rfl
  · rcases bit_cases r with rfl | rfl
    · exact idOf_kept x
    · exact idOf_token t x h
  · rcases bit_cases r with rfl | rfl <;> exact idOf_token 103#32 x (by decide)

/-- A random token is below 30522. -/
theorem tokenAt_lt (k : Key) (p : S128x8192.Idx) : (tokenAt k p).toNat < 30522 := by
  rw [tokenAt, BitVec.toNat_umod]
  exact Nat.mod_lt _ (by decide)

variable (m : (ℓ : Loc nD τ sig) → Buf (Elt Ideal) ℓ) (ρ : Dev nD → PrngReg)

/-- The argument and the table as the second region finds them. -/
theorem V1_arg (c : Dev nD) : V1 m ρ c main_arg0 = m (c.tc.loc main_arg0) := W1_args m ρ c main_arg0 (by decide)

/-- The table holds every position's code. -/
theorem V1_table (c : Dev nD) : (V1 m ρ c main_v0 : IVec S128x8192 16) = fun p => (codeAt p).setWidth 16 :=
  (W1_arr m ρ c 0).trans (table_arr (V0 m ρ) c)

/-- The first result: every position's replaced id. -/
theorem W2_ids (c : Dev nD) : (W2 m ρ c (Proc.devRef .tc main_v1_0) : IVec S128x8192 32) =
    fun p => idAt p ((m (c.tc.loc main_arg0) : IVec S128x8192 32) p) := by
  refine (W2_arr m ρ c 2).trans ((ids_arr (V1 m ρ) c).trans (funext fun p => ?_))
  rw [V1_arg, V1_table]
  exact idOf_code _ _ _ _ _ (tokenAt_lt _ _)

/-- The second result: every position's label. -/
theorem W2_labels (c : Dev nD) : (W2 m ρ c (Proc.devRef .tc main_v1_1) : IVec S128x8192 32) =
    fun p => labelAt p ((m (c.tc.loc main_arg0) : IVec S128x8192 32) p) := by
  refine (W2_arr m ρ c 3).trans ((labels_arr (V1 m ρ) c).trans (funext fun p => ?_))
  rw [V1_arg, V1_table]
  exact labelOf_code _ _ _ _ _ (tokenAt_lt _ _)

end Cert.KernelIdeal.Run
-- ==== Proof.Equation.lean ====
/- The idealized kernel and the idealized reference end with the same two results. -/
module

public import proofs.«01_k».proof.Defs
public import proofs.«01_k».proof.Proof.Gen.ReferenceIdeal
public import proofs.«01_k».proof.Proof.RefRun
public import proofs.«01_k».proof.Proof.KernelResult

@[expose] public section

set_option maxRecDepth 20000

noncomputable section

namespace Cert.Equation

open Idealize.ShloMosaic Idealize.SL Idealize.SL.Sem
open Cert.Lines Cert.ReferenceIdeal.Run

/-- The two results as functions of what the argument holds. -/
def ids (x : IVec ⟨2, ![128, 8192]⟩ 32) : IVec ⟨2, ![128, 8192]⟩ 32 := fun p => idAt p (x p)

/-- And the labels. -/
def labels (x : IVec ⟨2, ![128, 8192]⟩ 32) : IVec ⟨2, ![128, 8192]⟩ 32 := fun p => labelAt p (x p)

section Kernel

open Cert.KernelIdeal Cert.KernelIdeal.Run

/-- The kernel's run, read at its results and its argument. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v1_0) = ids (m (c.tc.loc main_arg0))
      ∧ r.2.mem (c.tc.loc main_v1_1) = labels (m (c.tc.loc main_arg0))
      ∧ r.2.mem (c.tc.loc main_arg0) = m (c.tc.loc main_arg0) :=
  (θ_run defs _ _).mono (fun _ h c => ⟨(h.1 c _ (mem_uc main_v1_0 (by decide))).trans (W2_ids m ρ c),
    (h.1 c _ (mem_uc main_v1_1 (by decide))).trans (W2_labels m ρ c),
    (h.1 c _ (mem_uc main_arg0 (by decide))).trans (W2_main_arg0 m ρ c)⟩) (Cert.KernelIdeal.Run.run m ρ)

end Kernel

section Reference

open Cert.ReferenceIdeal

/-- The reference's run, read at its results and its argument. -/
theorem reference_run [Facts] (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v26) = ids (m (c.tc.loc main_arg0))
      ∧ r.2.mem (c.tc.loc main_v17) = labels (m (c.tc.loc main_arg0))
      ∧ r.2.mem (c.tc.loc main_arg0) = m (c.tc.loc main_arg0) := by
  obtain ⟨V, hV, harg, h⟩ := Cert.ReferenceIdeal.Run.run m ρ
  refine (θ_run defs _ _).mono (fun r hr c => ⟨(hr c main_v26).trans ?_, (hr c main_v17).trans ?_,
    (hr c main_arg0).trans (harg c)⟩) h
  · rw [← harg c]
    exact funext fun p => (results (hV c) p).2
  · rw [← harg c]
    exact funext fun p => (results (hV c) p).1

end Reference

/-- From memories that agree on the argument the two programs end with the same results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => ids (m (c.tc.loc Cert.KernelIdeal.main_arg0)), fun c => labels (m (c.tc.loc Cert.KernelIdeal.main_arg0)),
    kernel_run m g, ?_⟩
  refine (θ_run _ _ _).mono (fun r h c => ?_) (reference_run m' g')
  obtain ⟨h0, h1, h2⟩ := h c
  exact ⟨h0.trans (congrArg ids (hargs c)), h1.trans (congrArg labels (hargs c)), h2⟩

end Cert.Equation
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.RefRun
public import proofs.«01_k».proof.Proof.Equation

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
  fun m g _ => Cert.ReferenceIdeal.Run.frame m g, trivial, Cert.Equation.algebraic⟩

end Cert.Proof

end
